-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graphs_binary [hPre_graphs_binary : Cert.Pre_graphs_binary.Facts] (m : (ℓ : Loc Cert.KernelIdeal.nD Cert.KernelIdeal.τ Cert.KernelIdeal.sig) → Buf (Elt Ideal) ℓ) : Prop :=
  ∀ c : Dev Cert.KernelIdeal.nD,
    (Cert.Pre_graphs_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_graphs_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_graphs_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_graphs_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_graphs_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graphs_binary [hPre_graphs_binary : Cert.Pre_graphs_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graphs_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_graphs_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_graphs_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_graphs_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_graphs_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_graphs_binary [hKernelIdeal : Cert.KernelIdeal.Facts] [hPre_graphs_binary : Cert.Pre_graphs_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graphs_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_graphs_binary [hReferenceIdeal : Cert.ReferenceIdeal.Facts] [hPre_graphs_binary : Cert.Pre_graphs_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graphs_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_graphs_binary [hKernelIdeal : Cert.KernelIdeal.Facts] [hReferenceIdeal : Cert.ReferenceIdeal.Facts] [hPre_graphs_binary : Cert.Pre_graphs_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graphs_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_graphs_binary : Cert.Pre_graphs_binary.Facts),
    quiescent_Kernel (hKernel := hKernel)
    ∧ quiescent_KernelIdeal (hKernelIdeal := hKernelIdeal)
    ∧ quiescent_KernelIdeal_pre_graphs_binary (hKernelIdeal := hKernelIdeal) (hPre_graphs_binary := hPre_graphs_binary)
    ∧ quiescent_ReferenceIdeal (hReferenceIdeal := hReferenceIdeal)
    ∧ quiescent_ReferenceIdeal_pre_graphs_binary (hReferenceIdeal := hReferenceIdeal) (hPre_graphs_binary := hPre_graphs_binary)
    ∧ preserves_Kernel_KernelIdeal
    ∧ algebraic_KernelIdeal_ReferenceIdeal_pre_graphs_binary (hKernelIdeal := hKernelIdeal) (hReferenceIdeal := hReferenceIdeal) (hPre_graphs_binary := hPre_graphs_binary)
-- ==== Pre_graphs_binary.lean ====
abbrev S4x8x128 : Shape := ⟨3, ![4, 8, 128]⟩
abbrev S4x8x1024x1024 : Shape := ⟨4, ![4, 8, 1024, 1024]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S_ : Shape := ⟨0, ![]⟩
abbrev S1x128 : Shape := ⟨2, ![1, 128]⟩

class Facts : Prop where
  bcast_S_S4x8x1024x1024 : S_.BroadcastsInDim S4x8x1024x1024 (![] : Fin 0 → Fin S4x8x1024x1024.rank)
  slices_S2x128_S1x128_0_0 : S2x128.Slices ![0, 0] S1x128
  shapeCasts_S1x128_S128 : S1x128.ShapeCasts S128
  bcast_S_S128 : S_.BroadcastsInDim S128 (![] : Fin 0 → Fin S128.rank)
  bcast_S_S2x128 : S_.BroadcastsInDim S2x128 (![] : Fin 0 → Fin S2x128.rank)

variable [Facts]

def fn_part1 {F : FTy → Type} [FloatOps F] (main_arg9 : FVec F S2x128 .f32) (main_v4 : IVec S4x8x1024x1024 1) (main_v9 : IVec S128 1) (main_v14 : IVec S128 1) (main_v17 : FVec F S128 .f32) (main_v18 : FVec F S128 .f32) : IVec S4x8x1024x1024 1 × IVec S128 1 × IVec S128 1 × IVec S128 1 × IVec S2x128 1 :=
  let main_v19 : IVec S128 1 := cmpf .olt main_v17 main_v18
  let main_cst_4 : FVec F S_ .f32 := constant S_ .f32 0x3727C5AC#32
  let main_v20 : FVec F S2x128 .f32 := broadcastInDim S2x128 ![] bcast_S_S2x128 main_cst_4
  let main_v21 : FVec F S2x128 .f32 := addf main_arg9 main_v20
  let main_cst_5 : FVec F S_ .f32 := constant S_ .f32 0x00000000#32
  let main_v22 : FVec F S2x128 .f32 := broadcastInDim S2x128 ![] bcast_S_S2x128 main_cst_5
  let main_v23 : IVec S2x128 1 := cmpf .ogt main_v21 main_v22
  (main_v4, main_v9, main_v14, main_v19, main_v23)

def fn {F : FTy → Type} [FloatOps F] (main_arg0 : FVec F S4x8x128 .f32) (main_arg1 : FVec F S4x8x1024x1024 .f32) (main_arg2 : FVec F S128x128 .f32) (main_arg3 : FVec F S128 .f32) (main_arg4 : FVec F S2x128x128 .f32) (main_arg5 : FVec F S2x128 .f32) (main_arg6 : FVec F S2x128 .f32) (main_arg7 : FVec F S2x128 .f32) (main_arg8 : FVec F S2x128 .f32) (main_arg9 : FVec F S2x128 .f32) (main_arg10 : FVec F S128x128 .f32) (main_arg11 : FVec F S128 .f32) : IVec S4x8x1024x1024 1 × IVec S128 1 × IVec S128 1 × IVec S128 1 × IVec S2x128 1 :=
  let main_cst : FVec F S_ .f32 := constant S_ .f32 0x00000000#32
  let main_v0 : FVec F S4x8x1024x1024 .f32 := broadcastInDim S4x8x1024x1024 ![] bcast_S_S4x8x1024x1024 main_cst
  let main_v1 : IVec S4x8x1024x1024 1 := cmpf .oeq main_arg1 main_v0
  let main_cst_0 : FVec F S_ .f32 := constant S_ .f32 0x3F800000#32
  let main_v2 : FVec F S4x8x1024x1024 .f32 := broadcastInDim S4x8x1024x1024 ![] bcast_S_S4x8x1024x1024 main_cst_0
  let main_v3 : IVec S4x8x1024x1024 1 := cmpf .oeq main_arg1 main_v2
  let main_v4 : IVec S4x8x1024x1024 1 := ori main_v1 main_v3
  let main_v5 : FVec F S1x128 .f32 := (extractStridedSlice S1x128 ![0, 0] · slices_S2x128_S1x128_0_0) main_arg5
  let main_v6 : FVec F S128 .f32 := shapeCast S128 main_v5 shapeCasts_S1x128_S128
  let main_v7 : FVec F S128 .f32 := Host.absf main_v6
  let main_cst_1 : FVec F S_ .f32 := constant S_ .f32 0x7F800000#32
  let main_v8 : FVec F S128 .f32 := broadcastInDim S128 ![] bcast_S_S128 main_cst_1
  let main_v9 : IVec S128 1 := cmpf .olt main_v7 main_v8
  let main_v10 : FVec F S1x128 .f32 := (extractStridedSlice S1x128 ![0, 0] · slices_S2x128_S1x128_0_0) main_arg6
  let main_v11 : FVec F S128 .f32 := shapeCast S128 main_v10 shapeCasts_S1x128_S128
  let main_v12 : FVec F S128 .f32 := Host.absf main_v11
  let main_cst_2 : FVec F S_ .f32 := constant S_ .f32 0x7F800000#32
  let main_v13 : FVec F S128 .f32 := broadcastInDim S128 ![] bcast_S_S128 main_cst_2
  let main_v14 : IVec S128 1 := cmpf .olt main_v12 main_v13
  let main_v15 : FVec F S1x128 .f32 := (extractStridedSlice S1x128 ![0, 0] · slices_S2x128_S1x128_0_0) main_arg8
  let main_v16 : FVec F S128 .f32 := shapeCast S128 main_v15 shapeCasts_S1x128_S128
  let main_v17 : FVec F S128 .f32 := Host.absf main_v16
  let main_cst_3 : FVec F S_ .f32 := constant S_ .f32 0x7F800000#32
  let main_v18 : FVec F S128 .f32 := broadcastInDim S128 ![] bcast_S_S128 main_cst_3
  fn_part1 (F := F) main_arg9 main_v4 main_v9 main_v14 main_v17 main_v18
-- ==== Kernel.lean ====
abbrev S4x8x128 : Shape := ⟨3, ![4, 8, 128]⟩
abbrev S4x8x1024x1024 : Shape := ⟨4, ![4, 8, 1024, 1024]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S32x1x128 : Shape := ⟨3, ![32, 1, 128]⟩
abbrev S32x1024x1024 : Shape := ⟨3, ![32, 1024, 1024]⟩
abbrev S1x128 : Shape := ⟨2, ![1, 128]⟩
abbrev S32x1024x128 : Shape := ⟨3, ![32, 1024, 128]⟩
abbrev S4x1x128 : Shape := ⟨3, ![4, 1, 128]⟩
abbrev S4x1024x1024 : Shape := ⟨3, ![4, 1024, 1024]⟩
abbrev S4x1024x128 : Shape := ⟨3, ![4, 1024, 128]⟩
abbrev S1x1024x1024 : Shape := ⟨3, ![1, 1024, 1024]⟩
abbrev S1024x1024 : Shape := ⟨2, ![1024, 1024]⟩
abbrev S1x1x128 : Shape := ⟨3, ![1, 1, 128]⟩
abbrev S1024 : Shape := ⟨1, ![1024]⟩
abbrev S1x1024 : Shape := ⟨2, ![1, 1024]⟩
abbrev S1024x1 : Shape := ⟨2, ![1024, 1]⟩
abbrev S1x128x128 : Shape := ⟨3, ![1, 128, 128]⟩
abbrev S1024x128 : Shape := ⟨2, ![1024, 128]⟩
abbrev S1x1024x128 : Shape := ⟨3, ![1, 1024, 128]⟩
abbrev S4x8x1024x128 : Shape := ⟨4, ![4, 8, 1024, 128]⟩

abbrev nBuf : Space → Nat
  | .hbm => 20
  | .vmem => 18
  | .smem => 0
  | _ => 0

abbrev bufTy : (tb : Table) → Fin (tcTables nBuf tb) → BufTy
  | .hbm, ⟨0, _⟩ => ⟨S4x8x128, .f32⟩
  | .hbm, ⟨1, _⟩ => ⟨S4x8x1024x1024, .f32⟩
  | .hbm, ⟨2, _⟩ => ⟨S128x128, .f32⟩
  | .hbm, ⟨3, _⟩ => ⟨S128, .f32⟩
  | .hbm, ⟨4, _⟩ => ⟨S2x128x128, .f32⟩
  | .hbm, ⟨5, _⟩ => ⟨S2x128, .f32⟩
  | .hbm, ⟨6, _⟩ => ⟨S2x128, .f32⟩
  | .hbm, ⟨7, _⟩ => ⟨S2x128, .f32⟩
  | .hbm, ⟨8, _⟩ => ⟨S2x128, .f32⟩
  | .hbm, ⟨9, _⟩ => ⟨S2x128, .f32⟩
  | .hbm, ⟨10, _⟩ => ⟨S128x128, .f32⟩
  | .hbm, ⟨11, _⟩ => ⟨S128, .f32⟩
  | .hbm, ⟨12, _⟩ => ⟨S32x1x128, .f32⟩
  | .hbm, ⟨13, _⟩ => ⟨S32x1024x1024, .f32⟩
  | .hbm, ⟨14, _⟩ => ⟨S1x128, .f32⟩
  | .hbm, ⟨15, _⟩ => ⟨S1x128, .f32⟩
  | .hbm, ⟨16, _⟩ => ⟨S32x1024x128, .f32⟩
  | .hbm, ⟨17, _⟩ => ⟨S32x1x128, .f32⟩
  | .hbm, ⟨18, _⟩ => ⟨S4x8x1024x128, .f32⟩
  | .hbm, ⟨19, _⟩ => ⟨S4x8x128, .f32⟩
  | .local _ .vmem, ⟨0, _⟩ => ⟨S4x1x128, .f32⟩
  | .local _ .vmem, ⟨1, _⟩ => ⟨S4x1x128, .f32⟩
  | .local _ .vmem, ⟨2, _⟩ => ⟨S4x1024x1024, .f32⟩
  | .local _ .vmem, ⟨3, _⟩ => ⟨S4x1024x1024, .f32⟩
  | .local _ .vmem, ⟨4, _⟩ => ⟨S128x128, .f32⟩
  | .local _ .vmem, ⟨5, _⟩ => ⟨S1x128, .f32⟩
  | .local _ .vmem, ⟨6, _⟩ => ⟨S2x128x128, .f32⟩
  | .local _ .vmem, ⟨7, _⟩ => ⟨S2x128, .f32⟩
  | .local _ .vmem, ⟨8, _⟩ => ⟨S2x128, .f32⟩
  | .local _ .vmem, ⟨9, _⟩ => ⟨S2x128, .f32⟩
  | .local _ .vmem, ⟨10, _⟩ => ⟨S2x128, .f32⟩
  | .local _ .vmem, ⟨11, _⟩ => ⟨S2x128, .f32⟩
  | .local _ .vmem, ⟨12, _⟩ => ⟨S128x128, .f32⟩
  | .local _ .vmem, ⟨13, _⟩ => ⟨S1x128, .f32⟩
  | .local _ .vmem, ⟨14, _⟩ => ⟨S4x1024x128, .f32⟩
  | .local _ .vmem, ⟨15, _⟩ => ⟨S4x1024x128, .f32⟩
  | .local _ .vmem, ⟨16, _⟩ => ⟨S4x1x128, .f32⟩
  | .local _ .vmem, ⟨17, _⟩ => ⟨S4x1x128, .f32⟩
  | _, _ => ⟨S4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x8x128 : Shape := ⟨3, ![4, 8, 128]⟩
abbrev S4x8x1024x1024 : Shape := ⟨4, ![4, 8, 1024, 1024]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1024x1024 : Shape := ⟨2, ![1024, 1024]⟩
abbrev S_ : Shape := ⟨0, ![]⟩
abbrev S1x1x1024x1024 : Shape := ⟨4, ![1, 1, 1024, 1024]⟩
abbrev S4x8x1024 : Shape := ⟨3, ![4, 8, 1024]⟩
abbrev S4x8x1024x1 : Shape := ⟨4, ![4, 8, 1024, 1]⟩
abbrev S4x8x1x128 : Shape := ⟨4, ![4, 8, 1, 128]⟩
abbrev S4x8x1024x128 : Shape := ⟨4, ![4, 8, 1024, 128]⟩
abbrev S1x1x1x128 : Shape := ⟨4, ![1, 1, 1, 128]⟩
abbrev S1x128x128 : Shape := ⟨3, ![1, 128, 128]⟩
abbrev S1x128 : Shape := ⟨2, ![1, 128]⟩

abbrev nBuf : Space → Nat
  | .hbm => 137
  | .vmem => 0
  | .smem => 0
  | _ => 0

abbrev hbmTy0_0 (i : Nat) : BufTy := match i % 128 with
  | 0 => ⟨S4x8x128, .f32⟩
  | 1 => ⟨S4x8x1024x1024, .f32⟩
  | 2 => ⟨S128x128, .f32⟩
  | 3 => ⟨S128, .f32⟩
  | 4 => ⟨S2x128x128, .f32⟩
  | 5 => ⟨S2x128, .f32⟩
  | 6 => ⟨S2x128, .f32⟩
  | 7 => ⟨S2x128, .f32⟩
  | 8 => ⟨S2x128, .f32⟩
  | 9 => ⟨S2x128, .f32⟩
  | 10 => ⟨S128x128, .f32⟩
  | 11 => ⟨S128, .f32⟩
  | 12 => ⟨S1024x1024, .i32⟩
  | 13 => ⟨S1024x1024, .i32⟩
  | 14 => ⟨S_, .i32⟩
  | 15 => ⟨S1024x1024, .i32⟩
  | 16 => ⟨S1024x1024, .i32⟩
  | 17 => ⟨S1024x1024, .i1⟩
  | 18 => ⟨S1024x1024, .f32⟩
  | 19 => ⟨S_, .f32⟩
  | 20 => ⟨S4x8x1024x1024, .f32⟩
  | 21 => ⟨S4x8x1024x1024, .i1⟩
  | 22 => ⟨S4x8x1024x1024, .f32⟩
  | 23 => ⟨S1x1x1024x1024, .f32⟩
  | 24 => ⟨S4x8x1024x1024, .f32⟩
  | 25 => ⟨S4x8x1024x1024, .f32⟩
  | 26 => ⟨S_, .f32⟩
  | 27 => ⟨S4x8x1024, .f32⟩
  | 28 => ⟨S_, .f32⟩
  | 29 => ⟨S4x8x1024, .f32⟩
  | 30 => ⟨S4x8x1024, .i1⟩
  | 31 => ⟨S4x8x1024, .f32⟩
  | 32 => ⟨S_, .f32⟩
  | 33 => ⟨S4x8x1024, .f32⟩
  | 34 => ⟨S4x8x1024, .f32⟩
  | 35 => ⟨S_, .f32⟩
  | 36 => ⟨S_, .f32⟩
  | 37 => ⟨S4x8x1024, .f32⟩
  | 38 => ⟨S4x8x1024, .f32⟩
  | 39 => ⟨S4x8x1024x1, .f32⟩
  | 40 => ⟨S4x8x1x128, .f32⟩
  | 41 => ⟨S4x8x1024x128, .f32⟩
  | 42 => ⟨S4x8x1024x128, .f32⟩
  | 43 => ⟨S1x1x1x128, .f32⟩
  | 44 => ⟨S4x8x1024x128, .f32⟩
  | 45 => ⟨S4x8x1024x128, .f32⟩
  | 46 => ⟨S1x128x128, .f32⟩
  | 47 => ⟨S128x128, .f32⟩
  | 48 => ⟨S4x8x1024x128, .f32⟩
  | 49 => ⟨S4x8x1024x128, .f32⟩
  | 50 => ⟨S4x8x1024x128, .f32⟩
  | 51 => ⟨S4x8x1024x128, .f32⟩
  | 52 => ⟨S4x8x1024x128, .f32⟩
  | 53 => ⟨S4x8x1024x128, .f32⟩
  | 54 => ⟨S1x128, .f32⟩
  | 55 => ⟨S128, .f32⟩
  | 56 => ⟨S1x1x1x128, .f32⟩
  | 57 => ⟨S4x8x1024x128, .f32⟩
  | 58 => ⟨S4x8x1024x128, .f32⟩
  | 59 => ⟨S1x128, .f32⟩
  | 60 => ⟨S128, .f32⟩
  | 61 => ⟨S1x1x1x128, .f32⟩
  | 62 => ⟨S4x8x1024x128, .f32⟩
  | 63 => ⟨S4x8x1024x128, .f32⟩
  | 64 => ⟨S1x128, .f32⟩
  | 65 => ⟨S128, .f32⟩
  | 66 => ⟨S_, .f32⟩
  | 67 => ⟨S128, .f32⟩
  | 68 => ⟨S128, .f32⟩
  | 69 => ⟨S128, .f32⟩
  | 70 => ⟨S1x1x1x128, .f32⟩
  | 71 => ⟨S4x8x1024x128, .f32⟩
  | 72 => ⟨S4x8x1024x128, .f32⟩
  | 73 => ⟨S1x128, .f32⟩
  | 74 => ⟨S128, .f32⟩
  | 75 => ⟨S1x1x1x128, .f32⟩
  | 76 => ⟨S4x8x1024x128, .f32⟩
  | 77 => ⟨S4x8x1024x128, .f32⟩
  | 78 => ⟨S1x128, .f32⟩
  | 79 => ⟨S128, .f32⟩
  | 80 => ⟨S1x1x1x128, .f32⟩
  | 81 => ⟨S4x8x1024x128, .f32⟩
  | 82 => ⟨S4x8x1024x128, .f32⟩
  | 83 => ⟨S_, .f32⟩
  | 84 => ⟨S4x8x1024x128, .f32⟩
  | 85 => ⟨S4x8x1024x128, .f32⟩
  | 86 => ⟨S4x8x1024x128, .f32⟩
  | 87 => ⟨S1x128x128, .f32⟩
  | 88 => ⟨S128x128, .f32⟩
  | 89 => ⟨S4x8x1024x128, .f32⟩
  | 90 => ⟨S4x8x1024x128, .f32⟩
  | 91 => ⟨S4x8x1024x128, .f32⟩
  | 92 => ⟨S4x8x1024x128, .f32⟩
  | 93 => ⟨S4x8x1024x128, .f32⟩
  | 94 => ⟨S4x8x1024x128, .f32⟩
  | 95 => ⟨S1x128, .f32⟩
  | 96 => ⟨S128, .f32⟩
  | 97 => ⟨S1x1x1x128, .f32⟩
  | 98 => ⟨S4x8x1024x128, .f32⟩
  | 99 => ⟨S4x8x1024x128, .f32⟩
  | 100 => ⟨S1x128, .f32⟩
  | 101 => ⟨S128, .f32⟩
  | 102 => ⟨S1x1x1x128, .f32⟩
  | 103 => ⟨S4x8x1024x128, .f32⟩
  | 104 => ⟨S4x8x1024x128, .f32⟩
  | 105 => ⟨S1x128, .f32⟩
  | 106 => ⟨S128, .f32⟩
  | 107 => ⟨S_, .f32⟩
  | 108 => ⟨S128, .f32⟩
  | 109 => ⟨S128, .f32⟩
  | 110 => ⟨S128, .f32⟩
  | 111 => ⟨S1x1x1x128, .f32⟩
  | 112 => ⟨S4x8x1024x128, .f32⟩
  | 113 => ⟨S4x8x1024x128, .f32⟩
  | 114 => ⟨S1x128, .f32⟩
  | 115 => ⟨S128, .f32⟩
  | 116 => ⟨S1x1x1x128, .f32⟩
  | 117 => ⟨S4x8x1024x128, .f32⟩
  | 118 => ⟨S4x8x1024x128, .f32⟩
  | 119 => ⟨S1x128, .f32⟩
  | 120 => ⟨S128, .f32⟩
  | 121 => ⟨S1x1x1x128, .f32⟩
  | 122 => ⟨S4x8x1024x128, .f32⟩
  | 123 => ⟨S4x8x1024x128, .f32⟩
  | 124 => ⟨S_, .f32⟩
  | 125 => ⟨S4x8x1024x128, .f32⟩
  | 126 => ⟨S4x8x1024x128, .f32⟩
  | 127 => ⟨S4x8x1024x128, .f32⟩
  | _ => ⟨S4x8x128, .f32⟩

abbrev hbmTy0_1 (i : Nat) : BufTy := match i % 128 with
  | 0 => ⟨S4x8x1024x128, .f32⟩
  | 1 => ⟨S1x1x1x128, .f32⟩
  | 2 => ⟨S4x8x1024x128, .f32⟩
  | 3 => ⟨S4x8x1024x128, .f32⟩
  | 4 => ⟨S_, .f32⟩
  | 5 => ⟨S4x8x128, .f32⟩
  | 6 => ⟨S_, .f32⟩
  | 7 => ⟨S4x8x128, .f32⟩
  | 8 => ⟨S4x8x128, .f32⟩
  | _ => ⟨S4x8x128, .f32⟩

abbrev hbmTy (i : Nat) : BufTy := match i / 128 with
  | 0 => hbmTy0_0 i
  | 1 => hbmTy0_1 i
  | _ => ⟨S4x8x128, .f32⟩

abbrev bufTy : (tb : Table) → Fin (tcTables nBuf tb) → BufTy
  | .hbm, ⟨i, _⟩ => hbmTy i
  | _, _ => ⟨S4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_5 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_6 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_7 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_8 : Ref sig .tc := ⟨.hbm, 132, rfl⟩
abbrev main_v108 : Ref sig .tc := ⟨.hbm, 133, rfl⟩
abbrev main_cst_9 : Ref sig .tc := ⟨.hbm, 134, rfl⟩
abbrev main_v109 : Ref sig .tc := ⟨.hbm, 135, rfl⟩
abbrev main_v110 : Ref sig .tc := ⟨.hbm, 136, rfl⟩

abbrev nD : Nat := 1
abbrev τ : Topo := Topo.v7x

variable {F : FTy → Type} [FloatOps F]
-- ==== Proof.Reads.lean ====
/- Hand-written. The kernel's layout operations, column sums and products on the matrix unit, each read at an index on
   the extended reals. -/
module

public import proofs.«01_k».proof.Proof.Gen.KernelIdeal
public import Idealize.ShloMosaic.Lib.ValueIdx
public import Idealize.ShloMosaic.Lib.Pipeline.Value
public import Idealize.ShloMosaic.PureOps.Ideal.Laws

@[expose] public section

noncomputable section

namespace Cert.Proof.Reads

open Idealize.ShloMosaic Idealize.ShloMosaic.ValueIdx Cert.KernelIdeal Cert.KernelIdeal.Facts

variable [Cert.KernelIdeal.Facts]

/-- A product into a zero accumulator with one contracted axis, read at an index: `L k` and `R k` are where the two
    operands are read for the contracted coordinate `k`. -/
theorem matmul_read {sl sr so : Shape} {φ₁ φ₂ : FTy} (d : DotDims sl sr so) (n : Nat) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ (q : d.contr.Idx) (k : Fin n), (q ⟨0, by omega⟩ : ℕ) = k.val → d.lhsIdx j q = L k)
    (hR : ∀ (q : d.contr.Idx) (k : Fin n), (q ⟨0, by omega⟩ : ℕ) = k.val → d.rhsIdx j q = R k) :
    FloatOps.matmul d none lhs rhs (constant so .f32 0x00000000#32) j = ∑ k : Fin n, lhs (L k) * rhs (R k) := by
  rw [Ideal.matmul_constant_zero_apply, ← Equiv.sum_comp (contrEquiv1 d n hr hs).symm]
  refine Finset.sum_congr rfl fun k _ => ?_
  have hk := contrEquiv1_symm_val d n hr hs k
  rw [hL _ k hk, hR _ k hk]

/-- The column product: the matrix transposed, times a column. -/
theorem colProduct (a : FVec Ideal S1024x1024 .bf16) (z : FVec Ideal S1024x1 .bf16) (j : Fin 1024) :
    FloatOps.matmul dot_S1024x1024_S1024x1_S1024x1_0_0_1_1_n_n none a z (constant S1024x1 .f32 0x00000000#32) (ix2 j 0)
      = ∑ i : Fin 1024, a (ix2 i j) * z (ix2 i 0) := by
  refine matmul_read _ 1024 rfl rfl a z _ (fun i => ix2 i j) (fun i => ix2 i 0) (fun q k hq => ?_) (fun q k hq => ?_)
  · refine Shape.idx_ext₂ ((DotDims.lhsIdx_val_of_single _ rfl _ q).trans hq) ?_
    unfold DotDims.lhsIdx
    rw [dif_neg (by decide), dif_pos (by decide)]
    rfl
  · refine Shape.idx_ext₂ ((DotDims.rhsIdx_val_of_single _ rfl _ q).trans hq) ?_
    unfold DotDims.rhsIdx
    rw [dif_neg (by decide), dif_pos (by decide)]
    rfl

/-- The aggregation product: the matrix transposed, times the messages. -/
theorem aggregate (a : FVec Ideal S1024x1024 .bf16) (z : FVec Ideal S1024x128 .bf16) (j : Fin 1024) (f : Fin 128) :
    FloatOps.matmul dot_S1024x1024_S1024x128_S1024x128_0_0_1_1_n_n none a z (constant S1024x128 .f32 0x00000000#32) (ix2 j f)
      = ∑ i : Fin 1024, a (ix2 i j) * z (ix2 i f) := by
  refine matmul_read _ 1024 rfl rfl a z _ (fun i => ix2 i j) (fun i => ix2 i f) (fun q k hq => ?_) (fun q k hq => ?_)
  · refine Shape.idx_ext₂ ((DotDims.lhsIdx_val_of_single _ rfl _ q).trans hq) ?_
    unfold DotDims.lhsIdx
    rw [dif_neg (by decide), dif_pos (by decide)]
    rfl
  · refine Shape.idx_ext₂ ((DotDims.rhsIdx_val_of_single _ rfl _ q).trans hq) ?_
    unfold DotDims.rhsIdx
    rw [dif_neg (by decide), dif_pos (by decide)]
    rfl

/-- One feature row times a weight matrix. -/
theorem rowProduct (x : FVec Ideal S1x128 .f32) (w : FVec Ideal S128x128 .f32) (f : Fin 128) :
    FloatOps.matmul dot_S1x128_S128x128_S1x128_1_0_0_1_n_n none x w (constant S1x128 .f32 0x00000000#32) (ix2 0 f)
      = ∑ k : Fin 128, x (ix2 0 k) * w (ix2 k f) := by
  refine matmul_read _ 128 rfl rfl x w _ (fun k => ix2 0 k) (fun k => ix2 k f) (fun q k hq => ?_) (fun q k hq => ?_)
  · refine Shape.idx_ext₂ ?_ ((DotDims.lhsIdx_val_of_single _ rfl _ q).trans hq)
    unfold DotDims.lhsIdx
    rw [dif_neg (by decide), dif_pos (by decide)]
    rfl
  · refine Shape.idx_ext₂ ((DotDims.rhsIdx_val_of_single _ rfl _ q).trans hq) ?_
    unfold DotDims.rhsIdx
    rw [dif_neg (by decide), dif_pos (by decide)]
    rfl

/-- All nodes' feature rows times a weight matrix. -/
theorem rowsProduct (x : FVec Ideal S1024x128 .f32) (w : FVec Ideal S128x128 .f32) (j : Fin 1024) (f : Fin 128) :
    FloatOps.matmul dot_S1024x128_S128x128_S1024x128_1_0_0_1_n_n none x w (constant S1024x128 .f32 0x00000000#32) (ix2 j f)
      = ∑ k : Fin 128, x (ix2 j k) * w (ix2 k f) := by
  refine matmul_read _ 128 rfl rfl x w _ (fun k => ix2 j k) (fun k => ix2 k f) (fun q k hq => ?_) (fun q k hq => ?_)
  · refine Shape.idx_ext₂ ?_ ((DotDims.lhsIdx_val_of_single _ rfl _ q).trans hq)
    unfold DotDims.lhsIdx
    rw [dif_neg (by decide), dif_pos (by decide)]
    rfl
  · refine Shape.idx_ext₂ ((DotDims.rhsIdx_val_of_single _ rfl _ q).trans hq) ?_
    unfold DotDims.rhsIdx
    rw [dif_neg (by decide), dif_pos (by decide)]
    rfl

/-- A sum down the columns of a 1024-row array. -/
theorem columnSum {n : Nat} (v : FVec Ideal (⟨2, ![1024, n]⟩ : Shape) .f32)
    (h : (⟨2, ![1024, n]⟩ : Shape).Reduces [0] (⟨1, ![n]⟩ : Shape)) (hφ : FKind.Formats .f32)
    (hacc : (0x00000000#32 : BitVec 32) = FKind.add.neutral .f32 hφ) (f : Fin n) :
    multiReduction .add [0] (⟨1, ![n]⟩ : Shape) v 0x00000000#32 h hφ hacc (ix1 f) = ∑ j : Fin 1024, v (ix2 j f) := by
  rw [Ideal.multiReduction_add_single]
  refine Finset.sum_congr rfl fun k _ => congrArg v ?_
  refine Shape.idx_ext₂ ?_ ?_ <;> rfl

/-- A row repeated down 1024 rows. -/
theorem bcastRow (v : FVec Ideal S1x128 .f32) (h : S1x128.Broadcasts S1024x128) (j : Fin 1024) (f : Fin 128) :
    broadcastTo S1024x128 v h (ix2 j f) = v (ix2 0 f) := by
  refine broadcastTo_apply v h _ _ fun a => ?_
  match a with
  | ⟨0, _⟩ => rfl
  | ⟨1, _⟩ => rfl

/-- A column repeated across 128 columns. -/
theorem bcastCol (v : FVec Ideal S1024x1 .f32) (h : S1024x1.Broadcasts S1024x128) (j : Fin 1024) (f : Fin 128) :
    broadcastTo S1024x128 v h (ix2 j f) = v (ix2 j 0) := by
  refine broadcastTo_apply v h _ _ fun a => ?_
  match a with
  | ⟨0, _⟩ => rfl
  | ⟨1, _⟩ => rfl

/-- A row turned into a column. -/
theorem turned (v : FVec Ideal S1x1024 .f32) (h : S1x1024.Transposes [1, 0] S1024x1) (j : Fin 1024) :
    transpose S1024x1 [1, 0] v h (ix2 j 0) = v (ix2 0 j) := by
  refine transpose_apply _ v h _ _ fun b => ?_
  match b with
  | ⟨0, _⟩ => rfl
  | ⟨1, _⟩ => rfl

/-- A leading axis of length one dropped, in rank three. -/
theorem dropLead {α : Type} {n m : Nat} (v : (⟨3, ![1, n, m]⟩ : Shape).Idx → α)
    (h : (⟨3, ![1, n, m]⟩ : Shape).ShapeCasts (⟨2, ![n, m]⟩ : Shape)) (i : Fin n) (f : Fin m) :
    shapeCast (⟨2, ![n, m]⟩ : Shape) v h (ix2 i f) = v (ix3 0 i f) := by
  refine (shapeCast_dropUnit_apply ![n, m] v h (ix2 i f)).trans (congrArg v ?_)
  funext a
  match a with | ⟨0, _⟩ => rfl | ⟨1, _⟩ => rfl | ⟨2, _⟩ => rfl

/-- A leading axis of length one added, in rank two. -/
theorem addLead {α : Type} {n m : Nat} (v : (⟨2, ![n, m]⟩ : Shape).Idx → α)
    (h : (⟨2, ![n, m]⟩ : Shape).ShapeCasts (⟨3, ![1, n, m]⟩ : Shape)) (i : Fin n) (f : Fin m) :
    shapeCast (⟨3, ![1, n, m]⟩ : Shape) v h (ix3 0 i f) = v (ix2 i f) := by
  refine (shapeCast_addUnit_apply ![n, m] v h (ix3 0 i f)).trans (congrArg v ?_)
  funext a
  match a with | ⟨0, _⟩ => rfl | ⟨1, _⟩ => rfl

/-- A leading axis of length one added, in rank one. -/
theorem addLead1 {α : Type} {n : Nat} (v : (⟨1, ![n]⟩ : Shape).Idx → α)
    (h : (⟨1, ![n]⟩ : Shape).ShapeCasts (⟨2, ![1, n]⟩ : Shape)) (f : Fin n) :
    shapeCast (⟨2, ![1, n]⟩ : Shape) v h (ix2 0 f) = v (ix1 f) := by
  refine (shapeCast_addUnit_apply ![n] v h (ix2 0 f)).trans (congrArg v ?_)
  funext a
  match a with | ⟨0, _⟩ => rfl

end Cert.Proof.Reads

end

end
-- ==== Proof.Algebra.lean ====
/- Hand-written. Facts about extended reals the certificate rests on: the constants of the two programs, the square root
   and its reciprocal on positive arguments, and the few distributive steps that hold where one side is finite or where
   nothing is negative. No program is named here. -/
module

public import Idealize.ShloMosaic.PureOps
public import Idealize.ShloMosaic.PureOps.Ideal.Laws

@[expose] public section

namespace Cert.Proof.Algebra

open Idealize.ShloMosaic

/-- The pattern of one denotes the number one. -/
theorem ofBits_one : Ideal.ofBits .f32 0x3F800000#32 = 1 := by
  simp [Ideal.ofBits, Ideal.ieee, -EReal.coe_mul]
  try norm_num

/-- The pattern of 1024 denotes the number 1024. -/
theorem ofBits_1024 : Ideal.ofBits .f32 0x44800000#32 = ((1024 : ℝ) : EReal) := by
  simp [Ideal.ofBits, Ideal.ieee, -EReal.coe_mul]
  norm_num

/-- The pattern of 2⁻¹⁰ denotes the reciprocal of 1024. -/
theorem ofBits_inv_1024 : Ideal.ofBits .f32 0x3A800000#32 = (((1024 : ℝ)⁻¹ : ℝ) : EReal) := by
  simp [Ideal.ofBits, Ideal.ieee, -EReal.coe_mul]
  norm_num

/-- The pattern of positive infinity denotes the top of the extended reals. -/
theorem ofBits_top : Ideal.ofBits .f32 0x7F800000#32 = ⊤ := by
  simp [Ideal.ofBits, Ideal.ieee]

/-- Multiplying by the reciprocal of 1024 is dividing by 1024. -/
theorem mul_inv_1024 (x : EReal) :
    x * Ideal.ofBits .f32 0x3A800000#32 = Ideal.div x (Ideal.ofBits .f32 0x44800000#32) := by
  rw [ofBits_inv_1024, ofBits_1024, Ideal.div, if_neg (by norm_num), EReal.coe_inv]

/-- On a positive number, multiplying by the reciprocal square root is dividing by the square root. -/
theorem mul_rsqrt (x v : EReal) (hv : 0 < v) : x * Ideal.rsqrt v = Ideal.div x (Ideal.sqrt v) := by
  induction v using EReal.rec with
  | bot => simp at hv
  | top =>
    show x * 0 = Ideal.div x ⊤
    simp [Ideal.div]
  | coe r =>
    have hr : 0 < r := by exact_mod_cast hv
    have hs : Real.sqrt r ≠ 0 := (Real.sqrt_pos.mpr hr).ne'
    show x * (if r < 0 then (⊥ : EReal) else if r = 0 then ⊤ else ((Real.sqrt r)⁻¹ : ℝ))
      = Ideal.div x (if r < 0 then (⊥ : EReal) else (Real.sqrt r : EReal))
    rw [if_neg (not_lt.mpr hr.le), if_neg hr.ne', if_neg (not_lt.mpr hr.le), Ideal.div,
      if_neg (by exact_mod_cast hs), EReal.coe_inv]

/-- The reciprocal square root of a positive number is a finite number. -/
theorem rsqrt_real (v : EReal) (hv : 0 < v) : ∃ r : ℝ, 0 ≤ r ∧ Ideal.rsqrt v = (r : EReal) := by
  induction v using EReal.rec with
  | bot => simp at hv
  | top => exact ⟨0, le_rfl, rfl⟩
  | coe r =>
    have hr : 0 < r := by exact_mod_cast hv
    refine ⟨(Real.sqrt r)⁻¹, by positivity, ?_⟩
    show (if r < 0 then (⊥ : EReal) else if r = 0 then ⊤ else ((Real.sqrt r)⁻¹ : ℝ)) = _
    rw [if_neg (not_lt.mpr hr.le), if_neg hr.ne']

/-- A finite number is one whose absolute value lies below the top. -/
theorem real_of_abs_lt_top (x : EReal) (h : max x (-x) < ⊤) : ∃ r : ℝ, x = (r : EReal) := by
  induction x using EReal.rec with
  | bot => simp at h
  | top => simp at h
  | coe r => exact ⟨r, rfl⟩

/-- Multiplication by a finite number distributes over adding a finite number to anything. -/
theorem add_coe_mul_coe (X : EReal) (r c : ℝ) : (X + r) * (c : EReal) = X * c + (r : EReal) * c := by
  induction X using EReal.rec with
  | coe x => norm_cast; ring
  | top =>
    rcases lt_trichotomy c 0 with h | h | h
    · rw [EReal.top_add_coe, EReal.top_mul_coe_of_neg h, ← EReal.coe_mul, EReal.bot_add]
    · subst h; simp
    · rw [EReal.top_add_coe, EReal.top_mul_coe_of_pos h, ← EReal.coe_mul, EReal.top_add_coe]
  | bot =>
    rcases lt_trichotomy c 0 with h | h | h
    · rw [EReal.bot_add, EReal.bot_mul_coe_of_neg h, ← EReal.coe_mul, EReal.top_add_coe]
    · subst h; simp
    · rw [EReal.bot_add, EReal.bot_mul_coe_of_pos h, ← EReal.coe_mul, EReal.bot_add]

/-- A sum of nonnegative coefficients times one common factor is the coefficients' sum times the factor. -/
theorem sum_mul_of_nonneg {ι : Type} (s : Finset ι) (a : ι → EReal) (ha : ∀ i, 0 ≤ a i) (g : EReal) :
    ∑ i ∈ s, a i * g = (∑ i ∈ s, a i) * g := by
  classical
  induction s using Finset.induction_on with
  | empty => simp
  | insert i s hi ih =>
    rw [Finset.sum_insert hi, Finset.sum_insert hi, ih,
      EReal.right_distrib_of_nonneg (ha i) (Finset.sum_nonneg fun j _ => ha j)]

end Cert.Proof.Algebra

end
-- ==== Proof.Spec.lean ====
/- Hand-written. The two ways of computing one graph's node features, as functions of coordinates on the extended reals:
   the kernel's (`first`, `second`) and the reference's (`layer`). No program is named here. -/
module

public import proofs.«01_k».proof.Proof.Algebra

@[expose] public section

noncomputable section

namespace Cert.Proof.Spec

open Idealize.ShloMosaic

variable {N C : Type} [Fintype N] [DecidableEq N] [Fintype C]

/-- A row of features times a weight matrix, plus a bias: used for the input and for the output projection. -/
def affine (x : C → EReal) (W : C → C → EReal) (b : C → EReal) (f : C) : EReal := (∑ k, x k * W k f) + b f

/-! ### The kernel's way -/

/-- The kernel's degree normalisation: the reciprocal root of a column's sum plus one for the self loop. -/
def norm (A : N → N → EReal) (j : N) : EReal := Ideal.rsqrt ((∑ i, A i j) + 1)

/-- The scalar every node's aggregate of a constant feature row is a multiple of. -/
def weight (A : N → N → EReal) (j : N) : EReal := norm A j * ((∑ i, A i j * norm A i) + norm A j)

/-- The kernel's first layer, where all nodes start from one feature row `h`: scale and shift are folded together. -/
def first (e : EReal) (A : N → N → EReal) (h : C → EReal) (W : C → C → EReal) (b g be mu var : C → EReal) (j : N) (f : C) :
    EReal :=
  h f + max (weight A j * (((∑ k, h k * W k f) * Ideal.rsqrt (var f + e)) * g f)
    + ((((b f - mu f) * Ideal.rsqrt (var f + e)) * g f) + be f)) 0

/-- The normalised message the kernel sends from a node. -/
def sent (A : N → N → EReal) (h : N → C → EReal) (W : C → C → EReal) (i : N) (f : C) : EReal :=
  norm A i * ∑ k, h i k * W k f

/-- The kernel's second layer: neighbours' messages, the node's own message added apart. -/
def second (e : EReal) (A : N → N → EReal) (h : N → C → EReal) (W : C → C → EReal) (b g be mu var : C → EReal) (j : N)
    (f : C) : EReal :=
  h j f + max ((((norm A j * ((∑ i, A i j * sent A h W i f) + sent A h W j f) + b f) - mu f)
    * Ideal.rsqrt (var f + e)) * g f + be f) 0

/-! ### The reference's way -/

/-- The adjacency matrix made binary, with self loops. -/
def hat (A : N → N → EReal) (i j : N) : EReal := (if A i j ≠ 0 then 1 else 0) + (if i = j then 1 else 0)

/-- A node's degree. -/
def deg (A : N → N → EReal) (j : N) : EReal := ∑ i, hat A i j

/-- The reference's degree normalisation. -/
def dinv (A : N → N → EReal) (j : N) : EReal :=
  if 0 < deg A j then Ideal.div 1 (Ideal.sqrt (deg A j)) else 0

/-- The normalised message of the reference. -/
def msg (A : N → N → EReal) (h : N → C → EReal) (W : C → C → EReal) (i : N) (f : C) : EReal :=
  dinv A i * ∑ k, h i k * W k f

/-- One layer of the reference: aggregation, bias, batch normalisation, rectifier, residual. -/
def layer (e : EReal) (A : N → N → EReal) (h : N → C → EReal) (W : C → C → EReal) (b g be mu var : C → EReal) (j : N)
    (f : C) : EReal :=
  h j f + max (Ideal.div ((dinv A j * (∑ i, hat A i j * msg A h W i f) + b f) - mu f) (Ideal.sqrt (var f + e)) * g f
    + be f) 0

end Cert.Proof.Spec

end

end
-- ==== Proof.Layers.lean ====
/- Hand-written. The kernel's two layers equal the reference's layer, on a matrix of zeros and ones: the mathematics of
   the certificate, with no program in it. -/
module

public import proofs.«01_k».proof.Proof.Spec

@[expose] public section

namespace Cert.Proof.Spec

open Idealize.ShloMosaic Cert.Proof.Algebra

variable {N C : Type} [Fintype N] [DecidableEq N] [Fintype C]

/-- Every entry of the matrix is zero or one. -/
def Binary (A : N → N → EReal) : Prop := ∀ i j, A i j = 0 ∨ A i j = 1

variable {A : N → N → EReal} (hA : Binary A)
include hA

/-- Entries of a binary matrix are not negative. -/
theorem Binary.nonneg (i j : N) : 0 ≤ A i j := by
  rcases hA i j with h | h <;> rw [h]
  exact zero_le_one

/-- On a binary matrix the test for being nonzero changes nothing. -/
theorem hat_eq (i j : N) : hat A i j = A i j + (if i = j then 1 else 0) := by
  unfold hat
  rcases hA i j with h | h <;> simp [h]

/-- A sum over neighbours and the node itself is the neighbours' sum plus the node's own term. -/
theorem sum_hat_mul (z : N → EReal) (j : N) : ∑ i, hat A i j * z i = (∑ i, A i j * z i) + z j := by
  have h : ∀ i, hat A i j * z i = A i j * z i + (if i = j then z i else 0) := by
    intro i
    rw [hat_eq hA, EReal.right_distrib_of_nonneg (hA.nonneg i j) (by split <;> simp)]
    split <;> simp
  simp only [h, Finset.sum_add_distrib, Finset.sum_ite_eq', Finset.mem_univ, if_true]

/-- A node's degree is its column's sum plus one. -/
theorem deg_eq (j : N) : deg A j = (∑ i, A i j) + 1 := by
  have h := sum_hat_mul hA (fun _ => 1) j
  simp only [mul_one] at h
  exact h

/-- Degrees are positive. -/
theorem degree_pos (j : N) : 0 < (∑ i, A i j) + 1 :=
  lt_of_lt_of_le zero_lt_one (le_add_of_nonneg_left (Finset.sum_nonneg fun i _ => hA.nonneg i j))

/-- Both programs normalise by the same number. -/
theorem dinv_eq (j : N) : dinv A j = norm A j := by
  unfold dinv norm
  rw [deg_eq hA, if_pos (degree_pos hA j), ← mul_rsqrt _ _ (degree_pos hA j), one_mul]

/-- The normalisation is a nonnegative number. -/
theorem norm_nonneg (j : N) : 0 ≤ norm A j := by
  obtain ⟨r, hr, e⟩ := rsqrt_real _ (degree_pos hA j)
  rw [norm, e]
  exact_mod_cast hr

/-- Both programs send the same messages. -/
theorem msg_eq (h : N → C → EReal) (W : C → C → EReal) : msg A h W = sent A h W := by
  funext i f
  rw [msg, sent, dinv_eq hA]

/-- The kernel's second layer is the reference's layer. -/
theorem second_eq (e : EReal) (h : N → C → EReal) (W : C → C → EReal) (b g be mu var : C → EReal)
    (hv : ∀ f, 0 < var f + e) : second e A h W b g be mu var = layer e A h W b g be mu var := by
  funext j f
  rw [second, layer, mul_rsqrt _ _ (hv f), dinv_eq hA, sum_hat_mul hA, msg_eq hA]

/-- Started from one common feature row, what a node gathers is a multiple of the row's image. -/
theorem gathered (h : C → EReal) (W : C → C → EReal) (j : N) (f : C) :
    dinv A j * ∑ i, hat A i j * msg A (fun _ => h) W i f = weight A j * ∑ k, h k * W k f := by
  rw [sum_hat_mul hA, msg_eq hA, dinv_eq hA]
  simp only [sent, weight]
  rw [mul_assoc]
  congr 1
  simp only [← mul_assoc]
  rw [sum_mul_of_nonneg _ _ (fun i => mul_nonneg (hA.nonneg i j) (norm_nonneg hA i)),
    EReal.right_distrib_of_nonneg
      (Finset.sum_nonneg fun i _ => mul_nonneg (hA.nonneg i j) (norm_nonneg hA i)) (norm_nonneg hA j)]

/-- The kernel's first layer is the reference's layer from one common feature row, where bias, scale and mean are
    finite: only then may the scale be distributed over the sum. -/
theorem first_eq (e : EReal) (h : C → EReal) (W : C → C → EReal) (b g be mu var : C → EReal)
    (hv : ∀ f, 0 < var f + e) (hb : ∀ f, ∃ r : ℝ, b f = r) (hg : ∀ f, ∃ r : ℝ, g f = r) (hm : ∀ f, ∃ r : ℝ, mu f = r) :
    first e A h W b g be mu var = layer e A (fun _ => h) W b g be mu var := by
  funext j f
  rw [first, layer, ← mul_rsqrt _ _ (hv f), gathered hA]
  obtain ⟨b', hb'⟩ := hb f
  obtain ⟨g', hg'⟩ := hg f
  obtain ⟨m', hm'⟩ := hm f
  obtain ⟨s, _, hs⟩ := rsqrt_real _ (hv f)
  rw [hb', hg', hm', hs]
  generalize weight A j = u
  generalize (∑ k, h k * W k f) = G
  have e1 : u * G + (b' : EReal) - (m' : EReal) = u * G + ((b' - m' : ℝ) : EReal) := by
    rw [EReal.coe_sub, sub_eq_add_neg, sub_eq_add_neg, add_assoc]
  rw [e1, ← EReal.coe_sub, add_coe_mul_coe, ← EReal.coe_mul (b' - m') s, add_coe_mul_coe, add_assoc]
  simp only [mul_assoc]

end Cert.Proof.Spec

end
-- ==== Proof.Model.lean ====
/- Hand-written. The whole network on one graph, the kernel's way and the reference's way, over one bundle of weights,
   and that the two agree on the inputs the precondition admits. -/
module

public import proofs.«01_k».proof.Proof.Layers
public import Idealize.ShloMosaic.Lib.ValueIdxCore

@[expose] public section

noncomputable section

namespace Cert.Proof.Model

open Idealize.ShloMosaic Idealize.ShloMosaic.ValueIdx Cert.Proof.Spec

/-- The small number added to a variance. -/
def eps : EReal := Ideal.ofBits .f32 0x3727C5AC#32

/-- The network's weights as functions of coordinates; the first coordinate of a layer's weight is the layer. -/
structure Weights where
  win : Fin 128 → Fin 128 → EReal
  bin : Fin 128 → EReal
  w : Fin 2 → Fin 128 → Fin 128 → EReal
  b : Fin 2 → Fin 128 → EReal
  g : Fin 2 → Fin 128 → EReal
  be : Fin 2 → Fin 128 → EReal
  mu : Fin 2 → Fin 128 → EReal
  var : Fin 2 → Fin 128 → EReal
  wout : Fin 128 → Fin 128 → EReal
  bout : Fin 128 → EReal

/-- A one-, two-, three- or four-axis array of numbers. -/
abbrev Arr1 (a : Nat) := (⟨1, ![a]⟩ : Shape).Idx → EReal
/-- Arrays of two axes. -/
abbrev Arr2 (a b : Nat) := (⟨2, ![a, b]⟩ : Shape).Idx → EReal
/-- Arrays of three axes. -/
abbrev Arr3 (a b c : Nat) := (⟨3, ![a, b, c]⟩ : Shape).Idx → EReal
/-- Arrays of four axes. -/
abbrev Arr4 (a b c d : Nat) := (⟨4, ![a, b, c, d]⟩ : Shape).Idx → EReal

/-- The weights read off the argument arrays. -/
def Weights.ofArrays (a2 : Arr2 128 128) (a3 : Arr1 128) (a4 : Arr3 2 128 128) (a5 a6 a7 a8 a9 : Arr2 2 128)
    (a10 : Arr2 128 128) (a11 : Arr1 128) : Weights where
  win k f := a2 (ix2 k f)
  bin f := a3 (ix1 f)
  w l k f := a4 (ix3 l k f)
  b l f := a5 (ix2 l f)
  g l f := a6 (ix2 l f)
  be l f := a7 (ix2 l f)
  mu l f := a8 (ix2 l f)
  var l f := a9 (ix2 l f)
  wout k f := a10 (ix2 k f)
  bout f := a11 (ix1 f)

/-- The adjacency matrix of graph `(b, t)`. -/
def graphOf (a1 : Arr4 4 8 1024 1024) (b : Fin 4) (t : Fin 8) : Fin 1024 → Fin 1024 → EReal := fun i j => a1 (ix4 b t i j)

/-- The feature row of graph `(b, t)`. -/
def featureOf (a0 : Arr3 4 8 128) (b : Fin 4) (t : Fin 8) : Fin 128 → EReal := fun f => a0 (ix3 b t f)

variable (P : Weights) (A : Fin 1024 → Fin 1024 → EReal) (X : Fin 128 → EReal)

/-- Node features, the kernel's way. -/
def kernelNodes (j : Fin 1024) (f : Fin 128) : EReal :=
  affine (second eps A
    (first eps A (affine X P.win P.bin) (P.w 0) (P.b 0) (P.g 0) (P.be 0) (P.mu 0) (P.var 0))
    (P.w 1) (P.b 1) (P.g 1) (P.be 1) (P.mu 1) (P.var 1) j) P.wout P.bout f

/-- Node features, the reference's way. -/
def refNodes (j : Fin 1024) (f : Fin 128) : EReal :=
  affine (layer eps A
    (layer eps A (fun _ => affine X P.win P.bin) (P.w 0) (P.b 0) (P.g 0) (P.be 0) (P.mu 0) (P.var 0))
    (P.w 1) (P.b 1) (P.g 1) (P.be 1) (P.mu 1) (P.var 1) j) P.wout P.bout f

/-- A graph's feature: the mean of its nodes'. -/
def mean (v : Fin 1024 → Fin 128 → EReal) (f : Fin 128) : EReal :=
  Ideal.div (∑ j, v j f) (Ideal.ofBits .f32 0x44800000#32)

/-- What is asked of the weights: positive shifted variances, and a finite first bias, scale and mean. -/
structure Admissible : Prop where
  var : ∀ l f, 0 < P.var l f + eps
  b : ∀ f, ∃ r : ℝ, P.b 0 f = r
  g : ∀ f, ∃ r : ℝ, P.g 0 f = r
  mu : ∀ f, ∃ r : ℝ, P.mu 0 f = r

/-- On a binary matrix and admissible weights the two ways agree. -/
theorem kernelNodes_eq (hA : Binary A) (hP : Admissible P) : kernelNodes P A X = refNodes P A X := by
  funext j f
  rw [kernelNodes, refNodes, first_eq hA _ _ _ _ _ _ _ _ (hP.var 0) hP.b hP.g hP.mu,
    second_eq hA _ _ _ _ _ _ _ _ (hP.var 1)]

end Cert.Proof.Model

end

end
-- ==== Proof.Graph.lean ====
/- Hand-written. What the kernel's body computes for ONE graph, read coordinate by coordinate on the extended reals. The
   body treats four graphs in a row with the same operations; this module reads the operations once. -/
module

public import proofs.«01_k».proof.Proof.Reads
public import proofs.«01_k».proof.Proof.Model
public import proofs.«01_k».proof.Proof.Gen.KernelIdeal.Skeleton

@[expose] public section

noncomputable section

namespace Cert.Proof.Graph

open Idealize.ShloMosaic Idealize.ShloMosaic.ValueIdx Cert.KernelIdeal Cert.KernelIdeal.Gen Cert.KernelIdeal.Facts
open Cert.Proof.Reads Cert.Proof.Algebra Cert.Proof.Model

variable [Cert.KernelIdeal.Facts]

/-- A matrix-shaped array as a function of two coordinates. -/
abbrev mat {n m : Nat} (v : (⟨2, ![n, m]⟩ : Shape).Idx → EReal) (i : Fin n) (f : Fin m) : EReal := v (ix2 i f)
/-- A one-row array as a function of its column. -/
abbrev row {m : Nat} (v : (⟨2, ![1, m]⟩ : Shape).Idx → EReal) (f : Fin m) : EReal := v (ix2 0 f)
/-- A block of one matrix as a function of two coordinates. -/
abbrev slab {n m : Nat} (v : (⟨3, ![1, n, m]⟩ : Shape).Idx → EReal) (i : Fin n) (f : Fin m) : EReal := v (ix3 0 i f)

/-- The column of normalisations. -/
theorem norm_read (a : Vec Ideal S1x1024x1024 .f32) (j : Fin 1024) : k0_pay7 a (ix2 j 0) = Spec.norm (slab a) j := by
  unfold k0_pay7 k0_pay4
  dsimp only
  rw [turned]
  show Ideal.rsqrt (shapeCast S1x1024 _ _ (ix2 0 j) + Ideal.ofBits .f32 0x3F800000#32) = _
  rw [addLead1, ofBits_one]
  refine (congrArg (fun z : EReal => Ideal.rsqrt (z + 1)) (columnSum (n := 1024) _ _ _ _ j)).trans ?_
  simp only [dropLead, Spec.norm]

/-- The column of weights. -/
theorem weight_read (a : Vec Ideal S1x1024x1024 .f32) (j : Fin 1024) :
    k0_pay8 a (ix2 j 0) = Spec.weight (slab a) j := by
  unfold k0_pay8 k0_pay6 k0_pay4
  dsimp only
  rw [mulf_apply, addf_apply]
  show k0_pay7 a _ * (FloatOps.matmul dot_S1024x1024_S1024x1_S1024x1_0_0_1_1_n_n none _ _ _ _ + k0_pay7 a _) = _
  rw [colProduct]
  simp only [truncf_apply, dropLead, norm_read, Spec.weight]

/-- The common feature row. -/
theorem affine_read (x : Vec Ideal S1x1x128 .f32) (w : Vec Ideal S128x128 .f32) (b : Vec Ideal S1x128 .f32) (f : Fin 128) :
    k0_pay9 x w b (ix2 0 f) = Spec.affine (slab x 0) (mat w) (row b) f := by
  unfold k0_pay9
  rw [addf_apply, shapeCast_self]
  show FloatOps.matmul (F := Ideal) dot_S1x128_S128x128_S1x128_1_0_0_1_n_n none _ _ _ _ + b _ = _
  rw [rowProduct]
  simp only [dropLead, Spec.affine]

/-- The reciprocal deviations. -/
theorem dev_read (v : Vec Ideal S1x128 .f32) (f : Fin 128) : k0_pay10 v (ix2 0 f) = Ideal.rsqrt (row v f + eps) := rfl

/-- The common feature row's image under the first layer's weights, times the reciprocal deviations. -/
theorem image_read (x : Vec Ideal S1x1x128 .f32) (w : Vec Ideal S128x128 .f32) (b : Vec Ideal S1x128 .f32)
    (w0 : Vec Ideal S1x128x128 .f32) (v : Vec Ideal S1x128 .f32) (f : Fin 128) :
    k0_pay11 x w b w0 v (ix2 0 f)
      = (∑ k, Spec.affine (slab x 0) (mat w) (row b) k * slab w0 k f) * Ideal.rsqrt (row v f + eps) := by
  unfold k0_pay11
  rw [mulf_apply, dev_read]
  show FloatOps.matmul dot_S1x128_S128x128_S1x128_1_0_0_1_n_n none _ _ _ _ * _ = _
  rw [rowProduct]
  simp only [dropLead, affine_read]

/-- The features after the first layer: the vector the body computes. -/
def hidden (a : Vec Ideal S1x1024x1024 .f32) (x : Vec Ideal S1x1x128 .f32) (w : Vec Ideal S128x128 .f32)
    (b : Vec Ideal S1x128 .f32) (w0 : Vec Ideal S1x128x128 .f32) (b0 g0 be0 mu0 v0 : Vec Ideal S1x128 .f32) :
    FVec Ideal S1024x128 .f32 :=
  k0_pay12 (k0_pay8 a) (k0_pay9 x w b) (k0_pay10 v0) (k0_pay11 x w b w0 v0) g0 b0 mu0 g0 be0

/-- The features after the first layer, by coordinates. -/
theorem hidden_read (a : Vec Ideal S1x1024x1024 .f32) (x : Vec Ideal S1x1x128 .f32) (w : Vec Ideal S128x128 .f32)
    (b : Vec Ideal S1x128 .f32) (w0 : Vec Ideal S1x128x128 .f32) (b0 g0 be0 mu0 v0 : Vec Ideal S1x128 .f32)
    (j : Fin 1024) (f : Fin 128) :
    hidden a x w b w0 b0 g0 be0 mu0 v0 (ix2 j f)
      = Spec.first eps (slab a) (Spec.affine (slab x 0) (mat w) (row b)) (slab w0) (row b0) (row g0) (row be0) (row mu0)
          (row v0) j f := by
  unfold hidden k0_pay12
  simp only [addf_apply, mulf_apply, maximumf_apply, subf_apply, bcastRow, bcastCol, weight_read, affine_read, image_read,
    dev_read, broadcast_apply, Spec.first]
  show _ + max _ (Ideal.ofBits .f32 0x00000000#32) = _
  rw [Ideal.ofBits_zero_f32]

/-- The node features one graph's turn of the body computes. -/
def nodes (a : Vec Ideal S1x1024x1024 .f32) (x : Vec Ideal S1x1x128 .f32) (w : Vec Ideal S128x128 .f32)
    (b : Vec Ideal S1x128 .f32) (w0 : Vec Ideal S1x128x128 .f32) (b0 g0 be0 mu0 v0 : Vec Ideal S1x128 .f32)
    (w1 : Vec Ideal S1x128x128 .f32) (b1 g1 be1 mu1 v1 : Vec Ideal S1x128 .f32) (wo : Vec Ideal S128x128 .f32)
    (bo : Vec Ideal S1x128 .f32) : FVec Ideal S1024x128 .f32 :=
  k0_pay15 wo (k0_pay5 bo) (hidden a x w b w0 b0 g0 be0 mu0 v0)
    (k0_pay13 (k0_pay6 a) (k0_pay7 a) (k0_pay8 a) (k0_pay9 x w b) (k0_pay10 v0) (k0_pay11 x w b w0 v0) g0 b0 mu0 g0 be0 w1 b1
      mu1) (k0_pay14 v1) g1 be1

/-- The second layer's messages, from the features `h` after the first. -/
theorem sent_read (a : Vec Ideal S1x1024x1024 .f32) (h : FVec Ideal S1024x128 .f32) (w1 : Vec Ideal S1x128x128 .f32)
    (i : Fin 1024) (f : Fin 128) :
    k0_pay7 a (ix2 i 0) * (∑ k : Fin 128, h (ix2 i k) * slab w1 k f) = Spec.sent (slab a) (mat h) (slab w1) i f := by
  rw [norm_read, Spec.sent]

/-- The second layer's aggregate with its bias, less the mean. -/
theorem centred_read (a : Vec Ideal S1x1024x1024 .f32) (x : Vec Ideal S1x1x128 .f32) (w : Vec Ideal S128x128 .f32)
    (b : Vec Ideal S1x128 .f32) (w0 : Vec Ideal S1x128x128 .f32) (b0 g0 be0 mu0 v0 : Vec Ideal S1x128 .f32)
    (w1 : Vec Ideal S1x128x128 .f32) (b1 mu1 : Vec Ideal S1x128 .f32) (j : Fin 1024) (f : Fin 128) :
    k0_pay13 (k0_pay6 a) (k0_pay7 a) (k0_pay8 a) (k0_pay9 x w b) (k0_pay10 v0) (k0_pay11 x w b w0 v0) g0 b0 mu0 g0 be0 w1 b1
        mu1 (ix2 j f)
      = (Spec.norm (slab a) j * ((∑ i, slab a i j
            * Spec.sent (slab a) (mat (hidden a x w b w0 b0 g0 be0 mu0 v0)) (slab w1) i f)
          + Spec.sent (slab a) (mat (hidden a x w b w0 b0 g0 be0 mu0 v0)) (slab w1) j f) + row b1 f) - row mu1 f := by
  unfold k0_pay13
  change subf (F := Ideal) (addf (mulf _ (addf (FloatOps.matmul dot_S1024x1024_S1024x128_S1024x128_0_0_1_1_n_n none _
    (truncf .bf16 (mulf _ (FloatOps.matmul dot_S1024x128_S128x128_S1024x128_1_0_0_1_n_n none (hidden a x w b w0 b0 g0 be0 mu0 v0)
      _ _)) _) _) _)) _) _ _ = _
  simp only [subf_apply, addf_apply, mulf_apply, bcastRow, bcastCol, aggregate, rowsProduct, truncf_apply, dropLead,
    k0_pay6, k0_pay4, ← sent_read, norm_read]
  rfl

/-- The node features by coordinates. -/
theorem nodes_read (a : Vec Ideal S1x1024x1024 .f32) (x : Vec Ideal S1x1x128 .f32) (w : Vec Ideal S128x128 .f32)
    (b : Vec Ideal S1x128 .f32) (w0 : Vec Ideal S1x128x128 .f32) (b0 g0 be0 mu0 v0 : Vec Ideal S1x128 .f32)
    (w1 : Vec Ideal S1x128x128 .f32) (b1 g1 be1 mu1 v1 : Vec Ideal S1x128 .f32) (wo : Vec Ideal S128x128 .f32)
    (bo : Vec Ideal S1x128 .f32) (j : Fin 1024) (f : Fin 128) :
    nodes a x w b w0 b0 g0 be0 mu0 v0 w1 b1 g1 be1 mu1 v1 wo bo (ix2 j f)
      = Spec.affine (Spec.second eps (slab a)
          (Spec.first eps (slab a) (Spec.affine (slab x 0) (mat w) (row b)) (slab w0) (row b0) (row g0) (row be0) (row mu0)
            (row v0)) (slab w1) (row b1) (row g1) (row be1) (row mu1) (row v1) j) (mat wo) (row bo) f := by
  have e : mat (hidden a x w b w0 b0 g0 be0 mu0 v0)
      = Spec.first eps (slab a) (Spec.affine (slab x 0) (mat w) (row b)) (slab w0) (row b0) (row g0) (row be0) (row mu0)
          (row v0) := funext fun j => funext fun f => hidden_read a x w b w0 b0 g0 be0 mu0 v0 j f
  rw [← e]
  unfold nodes k0_pay15 k0_pay5
  rw [addf_apply, bcastRow, shapeCast_self, Spec.affine]
  refine congrArg (· + bo (ix2 0 f)) ?_
  change FloatOps.matmul dot_S1024x128_S128x128_S1024x128_1_0_0_1_n_n none _ _ _ _ = _
  rw [rowsProduct]
  refine Finset.sum_congr rfl fun k _ => congrArg (· * wo (ix2 k f)) ?_
  simp only [subf_apply, addf_apply, mulf_apply, maximumf_apply, bcastRow, broadcast_apply, centred_read, Spec.second]
  have hd : k0_pay14 v1 (ix2 j k) = Ideal.rsqrt (row v1 k + eps) := by
    unfold k0_pay14
    rw [bcastRow]
    rfl
  rw [hd]
  show _ + max _ (Ideal.ofBits .f32 0x00000000#32) = _
  rw [Ideal.ofBits_zero_f32]

/-- The graph feature row one graph's turn computes from its node features. -/
def pooled (v : FVec Ideal S1024x128 .f32) : FVec Ideal S1x128 .f32 :=
  mulf (shapeCast S1x128 (multiReduction .add [0] S128 v 0x00000000#32 reduces_S1024x128_S128 (.inl rfl) rfl)
    shapeCasts_S128_S1x128) (broadcast S1x128 (Scalar.ofBits .f32 0x3A800000#32))

/-- The graph feature row is the nodes' mean. -/
theorem pooled_read (v : FVec Ideal S1024x128 .f32) (f : Fin 128) :
    pooled v (ix2 0 f) = Ideal.div (∑ j, mat v j f) (Ideal.ofBits .f32 0x44800000#32) := by
  unfold pooled
  rw [mulf_apply, addLead1, ← mul_inv_1024]
  exact congrArg (fun z : EReal => z * Ideal.ofBits .f32 0x3A800000#32) (columnSum (n := 128) v _ _ _ f)

end Cert.Proof.Graph

end

end
-- ==== Proof.Block.lean ====
/- Hand-written. What the kernel's body leaves in its two output blocks: slot `k` of each holds graph `k`'s node
   features and their mean. -/
module

public import proofs.«01_k».proof.Proof.Graph
public import proofs.«01_k».proof.Proof.Gen.KernelIdeal.Frame

@[expose] public section

noncomputable section

namespace Cert.Proof.Block

open Idealize.ShloMosaic Idealize.ShloMosaic.ValueIdx Cert.KernelIdeal Cert.KernelIdeal.Gen Cert.KernelIdeal.Facts
open Cert.Proof.Reads Cert.Proof.Model Cert.Proof.Graph

/-- The first row of a two-row array, as the body loads it. -/
theorem ld_row0 (v : Vec Ideal S2x128 .f32) : row (View.ld v r0_5) = fun f => v (ix2 0 f) := by
  funext f
  refine congrArg v (Shape.idx_ext₂ ?_ ?_)
  · rfl
  · show 0 + 1 * f.val = f.val
    omega

/-- The second row of a two-row array, as the body loads it. -/
theorem ld_row1 (v : Vec Ideal S2x128 .f32) : row (View.ld v r0_7) = fun f => v (ix2 1 f) := by
  funext f
  refine congrArg v (Shape.idx_ext₂ ?_ ?_)
  · rfl
  · show 0 + 1 * f.val = f.val
    omega

/-- A one-matrix load of a stack of matrices reads the matrix at the load's offset. -/
theorem ld_slab {n d e : Nat} (v : (⟨3, ![n, d, e]⟩ : Shape).Idx → EReal) (k : Fin n)
    (inb : ∀ a, (![k.val, 0, 0] : Fin 3 → Nat) a + (![1, d, e] : Fin 3 → Nat) a ≤ (⟨3, ![n, d, e]⟩ : Shape).size a) :
    slab (View.ld (Val := Elt Ideal) (e' := .f32) v (Rect.unit (s := (⟨3, ![n, d, e]⟩ : Shape)) ![k.val, 0, 0] ![1, d, e] inb))
      = fun i j => v (ix3 k i j) := by
  funext i j
  refine congrArg v (funext fun a => Fin.ext ?_)
  match a with
  | ⟨0, _⟩ => show k.val + 1 * 0 = k.val; omega
  | ⟨1, _⟩ => show 0 + 1 * i.val = i.val; omega
  | ⟨2, _⟩ => show 0 + 1 * j.val = j.val; omega

/-- The weights a block holds. -/
def weights (x2 : Vec Ideal S128x128 .f32) (x3 : Vec Ideal S1x128 .f32) (x4 : Vec Ideal S2x128x128 .f32)
    (x5 x6 x7 x8 x9 : Vec Ideal S2x128 .f32) (x10 : Vec Ideal S128x128 .f32) (x11 : Vec Ideal S1x128 .f32) : Weights where
  win := mat x2
  bin := row x3
  w l k f := x4 (ix3 l k f)
  b := mat x5
  g := mat x6
  be := mat x7
  mu := mat x8
  var := mat x9
  wout := mat x10
  bout := row x11

section
variable (x0 : Vec Ideal S4x1x128 .f32) (x1 : Vec Ideal S4x1024x1024 .f32) (x2 : Vec Ideal S128x128 .f32)
  (x3 : Vec Ideal S1x128 .f32) (x4 : Vec Ideal S2x128x128 .f32) (x5 x6 x7 x8 x9 : Vec Ideal S2x128 .f32)
  (x10 : Vec Ideal S128x128 .f32) (x11 : Vec Ideal S1x128 .f32)

/-- One slot's node features, from its matrix and its feature row as loaded. -/
def slot (a : Vec Ideal S1x1024x1024 .f32) (x : Vec Ideal S1x1x128 .f32) : FVec Ideal S1024x128 .f32 :=
  nodes a x (View.ld x2 r0_2) (View.ld x3 r0_3) (View.ld x4 r0_4) (View.ld x5 r0_5) (View.ld x6 r0_5) (View.ld x7 r0_5)
    (View.ld x8 r0_5) (View.ld x9 r0_5) (View.ld x4 r0_6) (View.ld x5 r0_7) (View.ld x6 r0_7) (View.ld x7 r0_7)
    (View.ld x8 r0_7) (View.ld x9 r0_7) (View.ld x10 r0_2) (View.ld x11 r0_3)

/-- One slot's node features are the kernel's model of its matrix and row. -/
theorem slot_read (a : Vec Ideal S1x1024x1024 .f32) (x : Vec Ideal S1x1x128 .f32) (j : Fin 1024) (f : Fin 128) :
    slot x2 x3 x4 x5 x6 x7 x8 x9 x10 x11 a x (ix2 j f)
      = kernelNodes (weights x2 x3 x4 x5 x6 x7 x8 x9 x10 x11) (slab a) (slab x 0) j f := by
  have z : (![0, 0] : Fin 2 → Nat) = fun _ => 0 := by funext a; match a with | ⟨0, _⟩ => rfl | ⟨1, _⟩ => rfl
  have h2 : View.ld x2 r0_2 = x2 := View.ld_unit_zero (S := S128x128) z _ x2
  have h3 : View.ld x3 r0_3 = x3 := View.ld_unit_zero (S := S1x128) z _ x3
  have h10 : View.ld x10 r0_2 = x10 := View.ld_unit_zero (S := S128x128) z _ x10
  have h11 : View.ld x11 r0_3 = x11 := View.ld_unit_zero (S := S1x128) z _ x11
  have h40 : slab (View.ld x4 r0_4) = fun k f => x4 (ix3 0 k f) := ld_slab x4 0 _
  have h41 : slab (View.ld x4 r0_6) = fun k f => x4 (ix3 1 k f) := ld_slab x4 1 _
  rw [slot, nodes_read, h2, h3, h10, h11, h40, h41]
  simp only [ld_row0, ld_row1]
  rfl

/-- The node block after the body: four stores, one per graph. -/
theorem out12_eq : out0_12 x0 x1 x2 x3 x4 x5 x6 x7 x8 x9 x10 x11
    = View.canon [⟨r0_17, shapeCast S1x1024x128
        (slot x2 x3 x4 x5 x6 x7 x8 x9 x10 x11 (View.ld x1 r0_15) (View.ld x0 r0_16)) shapeCasts_S1024x128_S1x1024x128⟩,
      ⟨r0_14, shapeCast S1x1024x128
        (slot x2 x3 x4 x5 x6 x7 x8 x9 x10 x11 (View.ld x1 r0_12) (View.ld x0 r0_13)) shapeCasts_S1024x128_S1x1024x128⟩,
      ⟨r0_11, shapeCast S1x1024x128
        (slot x2 x3 x4 x5 x6 x7 x8 x9 x10 x11 (View.ld x1 r0_9) (View.ld x0 r0_10)) shapeCasts_S1024x128_S1x1024x128⟩,
      ⟨r0_8, shapeCast S1x1024x128
        (slot x2 x3 x4 x5 x6 x7 x8 x9 x10 x11 (View.ld x1 r0_0) (View.ld x0 r0_1)) shapeCasts_S1024x128_S1x1024x128⟩] := by
  unfold_out out0_12
  rfl

/-- The graph block after the body: four stores, one per graph. -/
theorem out13_eq : out0_13 x0 x1 x2 x3 x4 x5 x6 x7 x8 x9 x10 x11
    = View.canon [⟨r0_16, shapeCast S1x1x128 (pooled
        (slot x2 x3 x4 x5 x6 x7 x8 x9 x10 x11 (View.ld x1 r0_15) (View.ld x0 r0_16))) shapeCasts_S1x128_S1x1x128⟩,
      ⟨r0_13, shapeCast S1x1x128 (pooled
        (slot x2 x3 x4 x5 x6 x7 x8 x9 x10 x11 (View.ld x1 r0_12) (View.ld x0 r0_13))) shapeCasts_S1x128_S1x1x128⟩,
      ⟨r0_10, shapeCast S1x1x128 (pooled
        (slot x2 x3 x4 x5 x6 x7 x8 x9 x10 x11 (View.ld x1 r0_9) (View.ld x0 r0_10))) shapeCasts_S1x128_S1x1x128⟩,
      ⟨r0_1, shapeCast S1x1x128 (pooled
        (slot x2 x3 x4 x5 x6 x7 x8 x9 x10 x11 (View.ld x1 r0_0) (View.ld x0 r0_1))) shapeCasts_S1x128_S1x1x128⟩] := by
  unfold_out out0_13
  rfl

/-- The row or matrix a slot loads, by coordinates. -/
theorem nodes_at (k : Fin 4) (a : Vec Ideal S1x1024x1024 .f32) (x : Vec Ideal S1x1x128 .f32)
    (ha : slab a = fun i j => x1 (ix3 k i j)) (hx : slab x = fun i f => x0 (ix3 k i f)) (j : Fin 1024) (f : Fin 128) :
    slot x2 x3 x4 x5 x6 x7 x8 x9 x10 x11 a x (ix2 j f)
      = kernelNodes (weights x2 x3 x4 x5 x6 x7 x8 x9 x10 x11) (fun i j => x1 (ix3 k i j)) (fun f => x0 (ix3 k 0 f)) j f := by
  rw [slot_read, ha, hx]

/-- The node block as one function of its coordinates. -/
def nodeBlock : Vec Ideal S4x1024x128 .f32 := fun i =>
  kernelNodes (weights x2 x3 x4 x5 x6 x7 x8 x9 x10 x11) (fun p q => x1 (ix3 (i 0) p q)) (fun f => x0 (ix3 (i 0) 0 f)) (i 1) (i 2)

/-- The graph block as one function of its coordinates. -/
def graphBlock : Vec Ideal S4x1x128 .f32 := fun i =>
  mean (kernelNodes (weights x2 x3 x4 x5 x6 x7 x8 x9 x10 x11) (fun p q => x1 (ix3 (i 0) p q)) (fun f => x0 (ix3 (i 0) 0 f))) (i 2)

/-- One store of the node block agrees with the block's function. -/
theorem node_piece (k : Fin 4) (a : Vec Ideal S1x1024x1024 .f32) (x : Vec Ideal S1x1x128 .f32)
    (ha : slab a = fun i j => x1 (ix3 k i j)) (hx : slab x = fun i f => x0 (ix3 k i f))
    (inb : ∀ a, (![k.val, 0, 0] : Fin 3 → Nat) a + (![1, 1024, 128] : Fin 3 → Nat) a ≤ S4x1024x128.size a)
    (y : S1x1024x128.Idx) :
    shapeCast S1x1024x128 (slot x2 x3 x4 x5 x6 x7 x8 x9 x10 x11 a x) shapeCasts_S1024x128_S1x1024x128 y
      = nodeBlock x0 x1 x2 x3 x4 x5 x6 x7 x8 x9 x10 x11 ((Rect.unit (s := S4x1024x128) ![k.val, 0, 0] ![1, 1024, 128] inb).emb y) := by
  obtain ⟨u, j, f, rfl⟩ : ∃ (u : Fin 1) (j : Fin 1024) (f : Fin 128), y = ix3 u j f := ⟨y 0, y 1, y 2, eq_ix3 y⟩
  obtain rfl : u = 0 := Subsingleton.elim _ _
  have e : (Rect.unit (s := S4x1024x128) ![k.val, 0, 0] ![1, 1024, 128] inb).emb (ix3 (0 : Fin 1) j f) = ix3 k j f := by
    funext a
    refine Fin.ext ?_
    match a with
    | ⟨0, _⟩ => show k.val + 1 * 0 = k.val; omega
    | ⟨1, _⟩ => show 0 + 1 * j.val = j.val; omega
    | ⟨2, _⟩ => show 0 + 1 * f.val = f.val; omega
  rw [e]
  refine (addLead _ _ j f).trans ?_
  exact nodes_at x0 x1 x2 x3 x4 x5 x6 x7 x8 x9 x10 x11 k a x ha hx j f

/-- One store of the graph block agrees with the block's function. -/
theorem graph_piece (k : Fin 4) (a : Vec Ideal S1x1024x1024 .f32) (x : Vec Ideal S1x1x128 .f32)
    (ha : slab a = fun i j => x1 (ix3 k i j)) (hx : slab x = fun i f => x0 (ix3 k i f))
    (inb : ∀ a, (![k.val, 0, 0] : Fin 3 → Nat) a + (![1, 1, 128] : Fin 3 → Nat) a ≤ S4x1x128.size a)
    (y : S1x1x128.Idx) :
    shapeCast S1x1x128 (pooled (slot x2 x3 x4 x5 x6 x7 x8 x9 x10 x11 a x)) shapeCasts_S1x128_S1x1x128 y
      = graphBlock x0 x1 x2 x3 x4 x5 x6 x7 x8 x9 x10 x11 ((Rect.unit (s := S4x1x128) ![k.val, 0, 0] ![1, 1, 128] inb).emb y) := by
  obtain ⟨u, w, f, rfl⟩ : ∃ (u : Fin 1) (w : Fin 1) (f : Fin 128), y = ix3 u w f := ⟨y 0, y 1, y 2, eq_ix3 y⟩
  obtain rfl : u = 0 := Subsingleton.elim _ _
  obtain rfl : w = 0 := Subsingleton.elim _ _
  have e : (Rect.unit (s := S4x1x128) ![k.val, 0, 0] ![1, 1, 128] inb).emb (ix3 (0 : Fin 1) (0 : Fin 1) f) = ix3 k 0 f := by
    funext a
    refine Fin.ext ?_
    match a with
    | ⟨0, _⟩ => show k.val + 1 * 0 = k.val; omega
    | ⟨1, _⟩ => rfl
    | ⟨2, _⟩ => show 0 + 1 * f.val = f.val; omega
  rw [e]
  refine (addLead _ _ 0 f).trans ?_
  refine (pooled_read _ f).trans ?_
  show Ideal.div _ _ = Ideal.div _ _
  refine congrArg (fun z => Ideal.div z _) (Finset.sum_congr rfl fun j _ => ?_)
  exact nodes_at x0 x1 x2 x3 x4 x5 x6 x7 x8 x9 x10 x11 k a x ha hx j f

/-- The node block after the body is that function. -/
theorem out12_block : out0_12 x0 x1 x2 x3 x4 x5 x6 x7 x8 x9 x10 x11 = nodeBlock x0 x1 x2 x3 x4 x5 x6 x7 x8 x9 x10 x11 := by
  rw [out12_eq]
  funext y
  refine View.canon_apply_of_pieces _ _ ?_ y (cover0_12 _ _ _ _ y)
  intro p hp
  simp only [List.mem_cons, List.not_mem_nil, or_false] at hp
  rcases hp with rfl | rfl | rfl | rfl
  · exact node_piece x0 x1 x2 x3 x4 x5 x6 x7 x8 x9 x10 x11 3 _ _ (ld_slab x1 3 (by decide)) (ld_slab x0 3 (by decide)) (by decide)
  · exact node_piece x0 x1 x2 x3 x4 x5 x6 x7 x8 x9 x10 x11 2 _ _ (ld_slab x1 2 (by decide)) (ld_slab x0 2 (by decide)) (by decide)
  · exact node_piece x0 x1 x2 x3 x4 x5 x6 x7 x8 x9 x10 x11 1 _ _ (ld_slab x1 1 (by decide)) (ld_slab x0 1 (by decide)) (by decide)
  · exact node_piece x0 x1 x2 x3 x4 x5 x6 x7 x8 x9 x10 x11 0 _ _ (ld_slab x1 0 (by decide)) (ld_slab x0 0 (by decide)) (by decide)

/-- The graph block after the body is that function. -/
theorem out13_block : out0_13 x0 x1 x2 x3 x4 x5 x6 x7 x8 x9 x10 x11 = graphBlock x0 x1 x2 x3 x4 x5 x6 x7 x8 x9 x10 x11 := by
  rw [out13_eq]
  funext y
  refine View.canon_apply_of_pieces _ _ ?_ y (cover0_13 _ _ _ _ y)
  intro p hp
  simp only [List.mem_cons, List.not_mem_nil, or_false] at hp
  rcases hp with rfl | rfl | rfl | rfl
  · exact graph_piece x0 x1 x2 x3 x4 x5 x6 x7 x8 x9 x10 x11 3 _ _ (ld_slab x1 3 (by decide)) (ld_slab x0 3 (by decide)) (by decide)
  · exact graph_piece x0 x1 x2 x3 x4 x5 x6 x7 x8 x9 x10 x11 2 _ _ (ld_slab x1 2 (by decide)) (ld_slab x0 2 (by decide)) (by decide)
  · exact graph_piece x0 x1 x2 x3 x4 x5 x6 x7 x8 x9 x10 x11 1 _ _ (ld_slab x1 1 (by decide)) (ld_slab x0 1 (by decide)) (by decide)
  · exact graph_piece x0 x1 x2 x3 x4 x5 x6 x7 x8 x9 x10 x11 0 _ _ (ld_slab x1 0 (by decide)) (ld_slab x0 0 (by decide)) (by decide)

end

end Cert.Proof.Block

end

end
-- ==== Proof.Array.lean ====
/- Hand-written. What the pallas_call leaves in its two output arrays: entry `(n, j, f)` is graph `n`'s. -/
module

public import proofs.«01_k».proof.Proof.Block
public import Idealize.ShloMosaic.Lib.Pipeline.ValueKit

@[expose] public section

noncomputable section

namespace Cert.Proof.Array

open Idealize.ShloMosaic hiding ix0 ix1 ix2 ix3 ix4 ix5
open Idealize.ShloMosaic.ValueIdx Idealize.ShloMosaic.Pipeline Idealize.SL.Sem
open Cert.KernelIdeal Cert.KernelIdeal.Gen Cert.KernelIdeal.Facts
open Cert.Proof.Model Cert.Proof.Graph Cert.Proof.Block

/-- Where the moving windows' blocks lie at a point: block `t` on the first axis, whole on the others. -/
theorem moving : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_12.index t (0 : Fin 3) = t.val ∧ win0_12.index t (1 : Fin 3) = 0 ∧ win0_12.index t (2 : Fin 3) = 0)
    ∧ (win0_13.index t (0 : Fin 3) = t.val ∧ win0_13.index t (1 : Fin 3) = 0 ∧ win0_13.index t (2 : Fin 3) = 0) :=
  (by decide +kernel : ∀ t : Fin grid0.N, _)

/-- The weights' windows hold one block, at the origin, at every point. -/
theorem still : ∀ t : Fin cfg0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0)
    ∧ (win0_9.index t (0 : Fin 2) = 0 ∧ win0_9.index t (1 : Fin 2) = 0) ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

variable (m : (b : Loc nD τ sig) → Buf (Elt Ideal) b) (c : Dev nD)

/-- Slot `k` of the feature rows' block at point `t` is row `4 t + k`. -/
theorem block_x (t : Fin cfg0.N) (k : Fin 4) (f : Fin 128) (n : Fin 32) (hn : n.val = 4 * t.val + k.val) :
    (iblk m c 0 t : Vec Ideal S4x1x128 .f32) (ix3 k 0 f)
      = (V m c main_v0 : Vec Ideal S32x1x128 .f32) (ix3 n 0 f) := by
  obtain ⟨⟨h0, h1, h2⟩, -, -, -⟩ := moving t
  blk_simp [iblk]
  refine congrArg _ (funext fun a => Fin.ext ?_)
  match a with
  | ⟨0, _⟩ => blk_simp; rw [h0]; show t.val * 4 + k.val = n.val; omega
  | ⟨1, _⟩ => blk_simp; rw [h1]
  | ⟨2, _⟩ => blk_simp; rw [h2]; show 0 * 128 + f.val = f.val; omega

/-- Slot `k` of the matrices' block at point `t` is matrix `4 t + k`. -/
theorem block_adj (t : Fin cfg0.N) (k : Fin 4) (i j : Fin 1024) (n : Fin 32) (hn : n.val = 4 * t.val + k.val) :
    (iblk m c 1 t : Vec Ideal S4x1024x1024 .f32) (ix3 k i j)
      = (V m c main_v1 : Vec Ideal S32x1024x1024 .f32) (ix3 n i j) := by
  obtain ⟨-, ⟨h0, h1, h2⟩, -, -⟩ := moving t
  blk_simp [iblk]
  refine congrArg _ (funext fun a => Fin.ext ?_)
  match a with
  | ⟨0, _⟩ => blk_simp; rw [h0]; show t.val * 4 + k.val = n.val; omega
  | ⟨1, _⟩ => blk_simp; rw [h1]; show 0 * 1024 + i.val = i.val; omega
  | ⟨2, _⟩ => blk_simp; rw [h2]; show 0 * 1024 + j.val = j.val; omega

/-- The input matrix: the block is the array. -/
theorem block_2 (t : Fin cfg0.N) : (iblk m c 2 t : Vec Ideal S128x128 .f32) = (V m c main_arg2 : Vec Ideal S128x128 .f32) := by
  obtain ⟨h, -, -, -, -, -, -, -, -, -⟩ := still t
  funext y
  blk_simp [iblk]
  refine congrArg _ (funext fun a => Fin.ext ?_)
  match a with
  | ⟨0, _⟩ => blk_simp; rw [h.1]; show 0 * _ + _ = _; rw [Nat.zero_mul, Nat.zero_add]
  | ⟨1, _⟩ => blk_simp; rw [h.2]; show 0 * _ + _ = _; rw [Nat.zero_mul, Nat.zero_add]

/-- The input bias: the block is the array. -/
theorem block_3 (t : Fin cfg0.N) : (iblk m c 3 t : Vec Ideal S1x128 .f32) = (V m c main_v2 : Vec Ideal S1x128 .f32) := by
  obtain ⟨-, h, -, -, -, -, -, -, -, -⟩ := still t
  funext y
  blk_simp [iblk]
  refine congrArg _ (funext fun a => Fin.ext ?_)
  match a with
  | ⟨0, _⟩ => blk_simp; rw [h.1]
  | ⟨1, _⟩ => blk_simp; rw [h.2]; show 0 * _ + _ = _; rw [Nat.zero_mul, Nat.zero_add]

/-- The layers' matrices: the block is the array. -/
theorem block_4 (t : Fin cfg0.N) : (iblk m c 4 t : Vec Ideal S2x128x128 .f32) = (V m c main_arg4 : Vec Ideal S2x128x128 .f32) := by
  obtain ⟨-, -, h, -, -, -, -, -, -, -⟩ := still t
  funext y
  blk_simp [iblk]
  refine congrArg _ (funext fun a => Fin.ext ?_)
  match a with
  | ⟨0, _⟩ => blk_simp; rw [h.1]; show 0 * _ + _ = _; rw [Nat.zero_mul, Nat.zero_add]
  | ⟨1, _⟩ => blk_simp; rw [h.2.1]; show 0 * _ + _ = _; rw [Nat.zero_mul, Nat.zero_add]
  | ⟨2, _⟩ => blk_simp; rw [h.2.2]; show 0 * _ + _ = _; rw [Nat.zero_mul, Nat.zero_add]

/-- The layers' biases: the block is the array. -/
theorem block_5 (t : Fin cfg0.N) : (iblk m c 5 t : Vec Ideal S2x128 .f32) = (V m c main_arg5 : Vec Ideal S2x128 .f32) := by
  obtain ⟨-, -, -, h, -, -, -, -, -, -⟩ := still t
  funext y
  blk_simp [iblk]
  refine congrArg _ (funext fun a => Fin.ext ?_)
  match a with
  | ⟨0, _⟩ => blk_simp; rw [h.1]; show 0 * _ + _ = _; rw [Nat.zero_mul, Nat.zero_add]
  | ⟨1, _⟩ => blk_simp; rw [h.2]; show 0 * _ + _ = _; rw [Nat.zero_mul, Nat.zero_add]

/-- The normalisation scales: the block is the array. -/
theorem block_6 (t : Fin cfg0.N) : (iblk m c 6 t : Vec Ideal S2x128 .f32) = (V m c main_arg6 : Vec Ideal S2x128 .f32) := by
  obtain ⟨-, -, -, -, h, -, -, -, -, -⟩ := still t
  funext y
  blk_simp [iblk]
  refine congrArg _ (funext fun a => Fin.ext ?_)
  match a with
  | ⟨0, _⟩ => blk_simp; rw [h.1]; show 0 * _ + _ = _; rw [Nat.zero_mul, Nat.zero_add]
  | ⟨1, _⟩ => blk_simp; rw [h.2]; show 0 * _ + _ = _; rw [Nat.zero_mul, Nat.zero_add]

/-- The normalisation shifts: the block is the array. -/
theorem block_7 (t : Fin cfg0.N) : (iblk m c 7 t : Vec Ideal S2x128 .f32) = (V m c main_arg7 : Vec Ideal S2x128 .f32) := by
  obtain ⟨-, -, -, -, -, h, -, -, -, -⟩ := still t
  funext y
  blk_simp [iblk]
  refine congrArg _ (funext fun a => Fin.ext ?_)
  match a with
  | ⟨0, _⟩ => blk_simp; rw [h.1]; show 0 * _ + _ = _; rw [Nat.zero_mul, Nat.zero_add]
  | ⟨1, _⟩ => blk_simp; rw [h.2]; show 0 * _ + _ = _; rw [Nat.zero_mul, Nat.zero_add]

/-- The normalisation means: the block is the array. -/
theorem block_8 (t : Fin cfg0.N) : (iblk m c 8 t : Vec Ideal S2x128 .f32) = (V m c main_arg8 : Vec Ideal S2x128 .f32) := by
  obtain ⟨-, -, -, -, -, -, h, -, -, -⟩ := still t
  funext y
  blk_simp [iblk]
  refine congrArg _ (funext fun a => Fin.ext ?_)
  match a with
  | ⟨0, _⟩ => blk_simp; rw [h.1]; show 0 * _ + _ = _; rw [Nat.zero_mul, Nat.zero_add]
  | ⟨1, _⟩ => blk_simp; rw [h.2]; show 0 * _ + _ = _; rw [Nat.zero_mul, Nat.zero_add]

/-- The normalisation variances: the block is the array. -/
theorem block_9 (t : Fin cfg0.N) : (iblk m c 9 t : Vec Ideal S2x128 .f32) = (V m c main_arg9 : Vec Ideal S2x128 .f32) := by
  obtain ⟨-, -, -, -, -, -, -, h, -, -⟩ := still t
  funext y
  blk_simp [iblk]
  refine congrArg _ (funext fun a => Fin.ext ?_)
  match a with
  | ⟨0, _⟩ => blk_simp; rw [h.1]; show 0 * _ + _ = _; rw [Nat.zero_mul, Nat.zero_add]
  | ⟨1, _⟩ => blk_simp; rw [h.2]; show 0 * _ + _ = _; rw [Nat.zero_mul, Nat.zero_add]

/-- The output matrix: the block is the array. -/
theorem block_10 (t : Fin cfg0.N) : (iblk m c 10 t : Vec Ideal S128x128 .f32) = (V m c main_arg10 : Vec Ideal S128x128 .f32) := by
  obtain ⟨-, -, -, -, -, -, -, -, h, -⟩ := still t
  funext y
  blk_simp [iblk]
  refine congrArg _ (funext fun a => Fin.ext ?_)
  match a with
  | ⟨0, _⟩ => blk_simp; rw [h.1]; show 0 * _ + _ = _; rw [Nat.zero_mul, Nat.zero_add]
  | ⟨1, _⟩ => blk_simp; rw [h.2]; show 0 * _ + _ = _; rw [Nat.zero_mul, Nat.zero_add]

/-- The output bias: the block is the array. -/
theorem block_11 (t : Fin cfg0.N) : (iblk m c 11 t : Vec Ideal S1x128 .f32) = (V m c main_v3 : Vec Ideal S1x128 .f32) := by
  obtain ⟨-, -, -, -, -, -, -, -, -, h⟩ := still t
  funext y
  blk_simp [iblk]
  refine congrArg _ (funext fun a => Fin.ext ?_)
  match a with
  | ⟨0, _⟩ => blk_simp; rw [h.1]
  | ⟨1, _⟩ => blk_simp; rw [h.2]; show 0 * _ + _ = _; rw [Nat.zero_mul, Nat.zero_add]

/-- The weights as the region finds them. -/
def entryWeights : Weights :=
  weights (V m c main_arg2 : Vec Ideal S128x128 .f32) (V m c main_v2 : Vec Ideal S1x128 .f32)
    (V m c main_arg4 : Vec Ideal S2x128x128 .f32) (V m c main_arg5 : Vec Ideal S2x128 .f32)
    (V m c main_arg6 : Vec Ideal S2x128 .f32) (V m c main_arg7 : Vec Ideal S2x128 .f32)
    (V m c main_arg8 : Vec Ideal S2x128 .f32) (V m c main_arg9 : Vec Ideal S2x128 .f32)
    (V m c main_arg10 : Vec Ideal S128x128 .f32) (V m c main_v3 : Vec Ideal S1x128 .f32)

/-- Graph `n`'s node features, from the arrays as the region finds them. -/
def graphNodes (n : Fin 32) : Fin 1024 → Fin 128 → EReal :=
  kernelNodes (entryWeights m c) (fun i j => (V m c main_v1 : Vec Ideal S32x1024x1024 .f32) (ix3 n i j))
    (fun f => (V m c main_v0 : Vec Ideal S32x1x128 .f32) (ix3 n 0 f))

/-- The node array. -/
def nodeArray : Vec Ideal S32x1024x128 .f32 := fun i => graphNodes m c (i 0) (i 1) (i 2)

/-- The graph array. -/
def graphArray : Vec Ideal S32x1x128 .f32 := fun i => mean (graphNodes m c (i 0)) (i 2)

/-- The model of slot `k` at point `t` is graph `4 t + k`'s. -/
theorem slot_graph (t : Fin cfg0.N) (k : Fin 4) (n : Fin 32) (hn : n.val = 4 * t.val + k.val) :
    kernelNodes (weights (iblk m c 2 t) (iblk m c 3 t) (iblk m c 4 t) (iblk m c 5 t) (iblk m c 6 t) (iblk m c 7 t)
        (iblk m c 8 t) (iblk m c 9 t) (iblk m c 10 t) (iblk m c 11 t))
      (fun p q => (iblk m c 1 t : Vec Ideal S4x1024x1024 .f32) (ix3 k p q))
      (fun f => (iblk m c 0 t : Vec Ideal S4x1x128 .f32) (ix3 k 0 f)) = graphNodes m c n := by
  have hW : weights (iblk m c 2 t) (iblk m c 3 t) (iblk m c 4 t) (iblk m c 5 t) (iblk m c 6 t) (iblk m c 7 t)
        (iblk m c 8 t) (iblk m c 9 t) (iblk m c 10 t) (iblk m c 11 t) = entryWeights m c := by
    rw [block_2, block_3, block_4, block_5, block_6, block_7, block_8, block_9, block_10, block_11]
    rfl
  have hA : (fun p q => (iblk m c 1 t : Vec Ideal S4x1024x1024 .f32) (ix3 k p q))
      = fun p q => (V m c main_v1 : Vec Ideal S32x1024x1024 .f32) (ix3 n p q) :=
    funext fun p => funext fun q => block_adj m c t k p q n hn
  have hX : (fun f => (iblk m c 0 t : Vec Ideal S4x1x128 .f32) (ix3 k 0 f))
      = fun f => (V m c main_v0 : Vec Ideal S32x1x128 .f32) (ix3 n 0 f) :=
    funext fun f => block_x m c t k f n hn
  rw [hW, hA, hX]
  rfl

/-- The node array after the region. -/
theorem nodes_after : (dats m 0 c).arrAt 12 cfg0.N = nodeArray m c := by
  refine (dats m 0 c).arrAt_eq_of_covers 12 _ (by decide +kernel) fun t hf y => ?_
  obtain ⟨-, -, ⟨h0, h1, h2⟩, -⟩ := moving t
  obtain ⟨k, j, f, rfl⟩ : ∃ (k : Fin 4) (j : Fin 1024) (f : Fin 128), y = ix3 k j f := ⟨y 0, y 1, y 2, ValueIdx.eq_ix3 y⟩
  have ht : t.val < 8 := t.isLt
  let n : Fin 32 := ⟨4 * t.val + k.val, by omega⟩
  have e : ((win0_12.blk t).view.emb (ix3 k j f) : S32x1024x128.Idx) = ix3 n j f := by
    funext a
    refine Fin.ext ?_
    match a with
    | ⟨0, _⟩ => blk_simp; rw [h0]; show t.val * 4 + k.val = 4 * t.val + k.val; omega
    | ⟨1, _⟩ => blk_simp; rw [h1]; show 0 * 1024 + j.val = j.val; omega
    | ⟨2, _⟩ => blk_simp; rw [h2]; show 0 * 128 + f.val = f.val; omega
  blk_simp
  rw [after0_12, out12_block]
  refine Eq.trans ?_ (congrArg (nodeArray m c) e).symm
  exact congrFun (congrFun (slot_graph m c t k n rfl) j) f

/-- The graph array after the region. -/
theorem graphs_after : (dats m 0 c).arrAt 13 cfg0.N = graphArray m c := by
  refine (dats m 0 c).arrAt_eq_of_covers 13 _ (by decide +kernel) fun t hf y => ?_
  obtain ⟨-, -, -, ⟨h0, h1, h2⟩⟩ := moving t
  obtain ⟨k, u, f, rfl⟩ : ∃ (k : Fin 4) (u : Fin 1) (f : Fin 128), y = ix3 k u f := ⟨y 0, y 1, y 2, ValueIdx.eq_ix3 y⟩
  have ht : t.val < 8 := t.isLt
  let n : Fin 32 := ⟨4 * t.val + k.val, by omega⟩
  have e : ((win0_13.blk t).view.emb (ix3 k u f) : S32x1x128.Idx) = ix3 n u f := by
    funext a
    refine Fin.ext ?_
    match a with
    | ⟨0, _⟩ => blk_simp; rw [h0]; show t.val * 4 + k.val = 4 * t.val + k.val; omega
    | ⟨1, _⟩ => blk_simp; rw [h1]
    | ⟨2, _⟩ => blk_simp; rw [h2]; show 0 * 128 + f.val = f.val; omega
  blk_simp
  rw [after0_13, out13_block]
  refine Eq.trans ?_ (congrArg (graphArray m c) e).symm
  exact congrArg (fun v => mean v f) (slot_graph m c t k n rfl)

end Cert.Proof.Array

end

end
-- ==== Proof.Tail.lean ====
/- Hand-written. The kernel program's two results from its arguments: the reshapes before and after the pallas_call move
   graph `8 b + t` to and from coordinates `(b, t)`. -/
module

public import proofs.«01_k».proof.Proof.Array

@[expose] public section

noncomputable section

namespace Cert.Proof.Tail

open Idealize.ShloMosaic hiding ix0 ix1 ix2 ix3 ix4 ix5
open Idealize.ShloMosaic.ValueIdx Idealize.ShloMosaic.Pipeline Idealize.SL.Sem Idealize.ShloMosaic.StableHlo
open Idealize.ShloMosaic.TcCoe
open Cert.KernelIdeal Cert.KernelIdeal.Gen Cert.KernelIdeal.Facts
open Cert.Proof.Model Cert.Proof.Graph Cert.Proof.Block Cert.Proof.Array

variable (m : (ℓ : Loc nD τ sig) → Buf (Elt Ideal) ℓ) (c : Dev nD)

/-- An argument array. -/
abbrev arg (r : Ref sig .tc) := m ((c.tc : Thread nD τ).loc r)

/-! ### The reshapes before the region -/

/-- The region's feature rows are the first argument, its two leading axes joined. -/
theorem entry_x : V m c main_v0 = shapeCast S32x1x128 (arg m c main_arg0 : Vec Ideal S4x8x128 .f32) shapeCasts_S4x8x128_S32x1x128 := by
  show StableHlo.after hostOps0 _ (Proc.devRef .tc main_v0) = _
  after_results
  rfl
/-- The region's matrices are the second argument, its two leading axes joined. -/
theorem entry_adj : V m c main_v1
    = shapeCast S32x1024x1024 (arg m c main_arg1 : Vec Ideal S4x8x1024x1024 .f32) shapeCasts_S4x8x1024x1024_S32x1024x1024 := by
  show StableHlo.after hostOps0 _ (Proc.devRef .tc main_v1) = _
  after_results
  rfl
/-- The region's input bias is the fourth argument as one row. -/
theorem entry_bin : V m c main_v2 = shapeCast S1x128 (arg m c main_arg3 : Vec Ideal S128 .f32) shapeCasts_S128_S1x128 := by
  show StableHlo.after hostOps0 _ (Proc.devRef .tc main_v2) = _
  after_results
  rfl
/-- The region's output bias is the last argument as one row. -/
theorem entry_bout : V m c main_v3 = shapeCast S1x128 (arg m c main_arg11 : Vec Ideal S128 .f32) shapeCasts_S128_S1x128 := by
  show StableHlo.after hostOps0 _ (Proc.devRef .tc main_v3) = _
  after_results
  rfl

/-! ### The reshapes after the region -/

/-- The first result is the region's node array, its leading axis split. -/
theorem exit_nodes : afterTail₀ cfgs (dats m) 0 (V0 m) [hostOps1] c main_v5
    = shapeCast S4x8x1024x128 (nodeArray m c) shapeCasts_S32x1024x128_S4x8x1024x128 := by
  have h : withArrays (cfgs 0).spec c (V0 m c) (fun w => (dats m 0 c).arrAt w (cfgs 0).N) (Proc.devRef .tc main_v4_0) = nodeArray m c :=
    (withArrays_arr spec0 (by decide) c (V0 m c) (fun w => (dats m 0 c).arrAt w cfg0.N) 12).trans (nodes_after m c)
  rw [← h]
  unfold afterTail₀
  show StableHlo.after hostOps1 _ (Proc.devRef .tc main_v5) = _
  after_results
  rfl
/-- The second result is the region's graph array, its leading axis split. -/
theorem exit_graphs : afterTail₀ cfgs (dats m) 0 (V0 m) [hostOps1] c main_v6
    = shapeCast S4x8x128 (graphArray m c) shapeCasts_S32x1x128_S4x8x128 := by
  have h : withArrays (cfgs 0).spec c (V0 m c) (fun w => (dats m 0 c).arrAt w (cfgs 0).N) (Proc.devRef .tc main_v4_1) = graphArray m c :=
    (withArrays_arr spec0 (by decide) c (V0 m c) (fun w => (dats m 0 c).arrAt w cfg0.N) 13).trans (graphs_after m c)
  rw [← h]
  unfold afterTail₀
  show StableHlo.after hostOps1 _ (Proc.devRef .tc main_v6) = _
  after_results
  rfl

/-! ### At coordinates -/

/-- The weights the region finds are the arguments'. -/
theorem entryWeights_eq : entryWeights m c = Weights.ofArrays (arg m c main_arg2) (arg m c main_arg3) (arg m c main_arg4)
    (arg m c main_arg5) (arg m c main_arg6) (arg m c main_arg7) (arg m c main_arg8) (arg m c main_arg9) (arg m c main_arg10)
    (arg m c main_arg11) := by
  have h3 : row (V m c main_v2 : Vec Ideal S1x128 .f32) = fun f => (arg m c main_arg3 : Vec Ideal S128 .f32) (ix1 f) := by
    funext f
    rw [entry_bin]
    refine shapeCast_apply _ _ (ix2 0 f) (ix1 f) ?_
    rw [Shape.rowMajor_val_one, Shape.rowMajor_val_two]
    show f.val = 0 * 128 + f.val
    omega
  have h11 : row (V m c main_v3 : Vec Ideal S1x128 .f32) = fun f => (arg m c main_arg11 : Vec Ideal S128 .f32) (ix1 f) := by
    funext f
    rw [entry_bout]
    refine shapeCast_apply _ _ (ix2 0 f) (ix1 f) ?_
    rw [Shape.rowMajor_val_one, Shape.rowMajor_val_two]
    show f.val = 0 * 128 + f.val
    omega
  rw [entryWeights, weights, h3, h11, V_main_arg2, V_main_arg4, V_main_arg5, V_main_arg6, V_main_arg7, V_main_arg8, V_main_arg9,
    V_main_arg10]
  rfl

/-- Graph `8 b + t` is the arguments' graph `(b, t)`. -/
theorem graphNodes_eq (b : Fin 4) (t : Fin 8) (n : Fin 32) (hn : n.val = 8 * b.val + t.val) :
    graphNodes m c n = kernelNodes (Weights.ofArrays (arg m c main_arg2) (arg m c main_arg3) (arg m c main_arg4)
      (arg m c main_arg5) (arg m c main_arg6) (arg m c main_arg7) (arg m c main_arg8) (arg m c main_arg9) (arg m c main_arg10)
      (arg m c main_arg11)) (graphOf (arg m c main_arg1) b t) (featureOf (arg m c main_arg0) b t) := by
  have hA : (fun i j => (V m c main_v1 : Vec Ideal S32x1024x1024 .f32) (ix3 n i j)) = graphOf (arg m c main_arg1) b t := by
    funext i j
    rw [entry_adj]
    refine shapeCast_apply _ _ (ix3 n i j) (ix4 b t i j) ?_
    rw [Shape.rowMajor_val_three, Shape.rowMajor_val_four]
    show ((b.val * 8 + t.val) * 1024 + i.val) * 1024 + j.val = (n.val * 1024 + i.val) * 1024 + j.val
    omega
  have hX : (fun f => (V m c main_v0 : Vec Ideal S32x1x128 .f32) (ix3 n 0 f)) = featureOf (arg m c main_arg0) b t := by
    funext f
    rw [entry_x]
    refine shapeCast_apply _ _ (ix3 n 0 f) (ix3 b t f) ?_
    rw [Shape.rowMajor_val_three, Shape.rowMajor_val_three]
    show (b.val * 8 + t.val) * 128 + f.val = (n.val * 1 + 0) * 128 + f.val
    omega
  rw [graphNodes, hA, hX, entryWeights_eq]

/-- The first result at coordinates. -/
theorem nodes_result (b : Fin 4) (t : Fin 8) (j : Fin 1024) (f : Fin 128) :
    (afterTail₀ cfgs (dats m) 0 (V0 m) [hostOps1] c main_v5 : Vec Ideal S4x8x1024x128 .f32) (ix4 b t j f)
      = kernelNodes (Weights.ofArrays (arg m c main_arg2) (arg m c main_arg3) (arg m c main_arg4)
      (arg m c main_arg5) (arg m c main_arg6) (arg m c main_arg7) (arg m c main_arg8) (arg m c main_arg9) (arg m c main_arg10)
      (arg m c main_arg11)) (graphOf (arg m c main_arg1) b t) (featureOf (arg m c main_arg0) b t) j f := by
  let n : Fin 32 := ⟨8 * b.val + t.val, by omega⟩
  rw [exit_nodes, ← graphNodes_eq m c b t n rfl]
  refine shapeCast_apply _ _ (ix4 b t j f) (ix3 n j f) ?_
  rw [Shape.rowMajor_val_three, Shape.rowMajor_val_four]
  show ((8 * b.val + t.val) * 1024 + j.val) * 128 + f.val = ((b.val * 8 + t.val) * 1024 + j.val) * 128 + f.val
  omega

/-- The second result at coordinates. -/
theorem graphs_result (b : Fin 4) (t : Fin 8) (f : Fin 128) :
    (afterTail₀ cfgs (dats m) 0 (V0 m) [hostOps1] c main_v6 : Vec Ideal S4x8x128 .f32) (ix3 b t f)
      = mean (kernelNodes (Weights.ofArrays (arg m c main_arg2) (arg m c main_arg3) (arg m c main_arg4)
      (arg m c main_arg5) (arg m c main_arg6) (arg m c main_arg7) (arg m c main_arg8) (arg m c main_arg9) (arg m c main_arg10)
      (arg m c main_arg11)) (graphOf (arg m c main_arg1) b t) (featureOf (arg m c main_arg0) b t)) f := by
  let n : Fin 32 := ⟨8 * b.val + t.val, by omega⟩
  rw [exit_graphs, ← graphNodes_eq m c b t n rfl]
  refine shapeCast_apply _ _ (ix3 b t f) (ix3 n 0 f) ?_
  rw [Shape.rowMajor_val_three, Shape.rowMajor_val_three]
  show ((8 * b.val + t.val) * 1 + 0) * 128 + f.val = (b.val * 8 + t.val) * 128 + f.val
  omega

end Cert.Proof.Tail

end

end
-- ==== Proof.RefParts.lean ====
/- Hand-written. The reference's smaller arrays read at coordinates: its normalised adjacency, its starting features, and
   each layer's weights, sliced and broadcast. -/
module

public import proofs.«01_k».proof.Proof.Model
public import proofs.«01_k».proof.Proof.Gen.ReferenceIdeal.Read
public import Idealize.ShloMosaic.Lib.ValueIdx

@[expose] public section

noncomputable section

namespace Cert.Proof.RefParts

open Idealize.ShloMosaic
open Idealize.ShloMosaic.ValueIdx Cert.ReferenceIdeal Cert.ReferenceIdeal.Gen Cert.ReferenceIdeal.Read
open Cert.Proof.Model

/-- One- and three-axis indices with equal coordinates are equal. -/
theorem same₁ {a : Nat} {i j : (⟨1, ![a]⟩ : Shape).Idx} (h : (i 0).val = (j 0).val) : i = j :=
  funext fun x => Fin.ext (by match x with | ⟨0, _⟩ => exact h)
/-- Two indices of three axes with the same coordinates are the same. -/
theorem same₃ {a b c : Nat} {i j : (⟨3, ![a, b, c]⟩ : Shape).Idx} (h0 : (i 0).val = (j 0).val) (h1 : (i 1).val = (j 1).val)
    (h2 : (i 2).val = (j 2).val) : i = j :=
  funext fun x => Fin.ext (by match x with | ⟨0, _⟩ => exact h0 | ⟨1, _⟩ => exact h1 | ⟨2, _⟩ => exact h2)

/-- A truth value as a number. -/
theorem bit_read (p : Bool) : FloatOps.uitofp (F := Ideal) .f32 (BitVec.ofBool p) = (if p = true then 1 else 0 : EReal) := by
  cases p
  · show (((0 : ℕ) : ℝ) : EReal) = _
    simp
  · show (((1 : ℕ) : ℝ) : EReal) = _
    simp

/-- Two coordinates' words are equal when the coordinates are. -/
theorem word_eq (i j : Fin 1024) : (BitVec.ofNat 32 i.val + 0#32 == BitVec.ofNat 32 j.val) = decide (i = j) := by
  have hi := i.isLt
  have hj := j.isLt
  rw [BitVec.add_zero, Bool.eq_iff_iff, beq_iff_eq, decide_eq_true_iff]
  constructor
  · intro h
    have h' := congrArg BitVec.toNat h
    rw [BitVec.toNat_ofNat, BitVec.toNat_ofNat, Nat.mod_eq_of_lt (by omega), Nat.mod_eq_of_lt (by omega)] at h'
    exact Fin.ext h'
  · rintro rfl
    rfl

/-- The identity matrix. -/
theorem eye_read (i j : Fin 1024) : val_main_v5 (F := Ideal) (ix2 i j) = (if i = j then 1 else 0 : EReal) := by
  rw [val_main_v5_apply, val_main_v4_apply, val_main_v3_apply, val_main_v0_apply, val_main_v1_apply, val_main_v2_apply,
    val_main_c_apply]
  show FloatOps.uitofp (F := Ideal) .f32 (BitVec.ofBool (BitVec.ofNat 32 i.val + 0#32 == BitVec.ofNat 32 j.val)) = _
  rw [bit_read, word_eq]
  simp only [decide_eq_true_iff]

section
variable (x1 : Arr4 4 8 1024 1024) (b : Fin 4) (t : Fin 8)

/-- The adjacency made binary, with self loops. -/
theorem hat_read (i j : Fin 1024) :
    val_main_v11 (F := Ideal) x1 (ix4 b t i j) = Spec.hat (graphOf x1 b t) i j := by
  have e : idx_main_v9 (idx_main_v10 (ix4 b t i j)) = ix2 i j := Shape.idx_ext₂ rfl rfl
  rw [val_main_v11_apply, val_main_v8_apply, val_main_v7_apply, val_main_v6_apply, val_main_cst_apply, val_main_v10_apply,
    val_main_v9_apply, e, eye_read]
  show FloatOps.uitofp (F := Ideal) .f32 (BitVec.ofBool (decide (x1 (ix4 b t i j) ≠ Ideal.ofBits .f32 0x00000000#32)))
    + (if i = j then 1 else 0 : EReal) = _
  rw [bit_read, Ideal.ofBits_zero_f32]
  simp only [decide_eq_true_iff]
  rfl

/-- A node's degree. -/
theorem deg_read (j : Fin 1024) : val_main_v12 (F := Ideal) x1 (ix3 b t j) = Spec.deg (graphOf x1 b t) j := by
  rw [val_main_v12_apply, val_main_cst_0_apply]
  show Ideal.ofBits .f32 0x00000000#32 + _ = _
  rw [Ideal.ofBits_zero_f32, zero_add]
  refine Finset.sum_congr rfl fun i _ => ?_
  have e : idx_main_v12 (ix3 b t j) i = ix4 b t i j := funext fun a => Fin.ext (by
    match a with | ⟨0, _⟩ => rfl | ⟨1, _⟩ => rfl | ⟨2, _⟩ => rfl | ⟨3, _⟩ => rfl)
  rw [e]
  exact hat_read x1 b t i j

/-- The degree normalisation. -/
theorem dinv_read (j : Fin 1024) : val_main_v18 (F := Ideal) x1 (ix3 b t j) = Spec.dinv (graphOf x1 b t) j := by
  rw [val_main_v18_apply, val_main_v14_apply, val_main_v17_apply, val_main_v16_apply, val_main_v15_apply, val_main_v13_apply,
    val_main_call0_v1_apply, val_main_call0_v0_apply, val_main_cst_1_apply, val_main_cst_2_apply, val_main_cst_3_apply, deg_read]
  show Scalar.select (BitVec.ofBool (decide (Ideal.ofBits .f32 0x00000000#32 < Spec.deg (graphOf x1 b t) j)))
    (Ideal.div (Ideal.ofBits .f32 0x3F800000#32) (Ideal.sqrt (Spec.deg (graphOf x1 b t) j))) (Ideal.ofBits .f32 0x00000000#32) = _
  rw [Ideal.ofBits_zero_f32, Algebra.ofBits_one, Spec.dinv, Scalar.select]
  by_cases h : 0 < Spec.deg (graphOf x1 b t) j <;> simp [h]

/-- The degree normalisation broadcast along the features, in each of its four places. -/
theorem dinv29 (j : Fin 1024) (f : Fin 128) : val_main_v29 (F := Ideal) x1 (ix4 b t j f) = Spec.dinv (graphOf x1 b t) j := by
  rw [val_main_v29_apply, val_main_v19_apply, ← dinv_read]
  exact congrArg _ (same₃ rfl rfl rfl)
/-- The normalisation the first layer's result is scaled by. -/
theorem dinv32 (j : Fin 1024) (f : Fin 128) : val_main_v32 (F := Ideal) x1 (ix4 b t j f) = Spec.dinv (graphOf x1 b t) j := by
  rw [val_main_v32_apply, val_main_v19_apply, ← dinv_read]
  exact congrArg _ (same₃ rfl rfl rfl)
/-- The normalisation the second layer's messages are scaled by. -/
theorem dinv68 (j : Fin 1024) (f : Fin 128) : val_main_v68 (F := Ideal) x1 (ix4 b t j f) = Spec.dinv (graphOf x1 b t) j := by
  rw [val_main_v68_apply, val_main_v19_apply, ← dinv_read]
  exact congrArg _ (same₃ rfl rfl rfl)
/-- The normalisation the second layer's result is scaled by. -/
theorem dinv71 (j : Fin 1024) (f : Fin 128) : val_main_v71 (F := Ideal) x1 (ix4 b t j f) = Spec.dinv (graphOf x1 b t) j := by
  rw [val_main_v71_apply, val_main_v19_apply, ← dinv_read]
  exact congrArg _ (same₃ rfl rfl rfl)

end

/-- The starting features: the projected row, at every node. -/
theorem start_read (x0 : Arr3 4 8 128) (x2 : Arr2 128 128) (x3 : Arr1 128) (b : Fin 4) (t : Fin 8) (j : Fin 1024) (f : Fin 128) :
    val_main_v25 (F := Ideal) x0 x2 x3 (ix4 b t j f)
      = Spec.affine (featureOf x0 b t) (fun k f => x2 (ix2 k f)) (fun f => x3 (ix1 f)) f := by
  rw [val_main_v25_apply, val_main_v22_apply, val_main_v24_apply, val_main_v23_apply]
  show _ + _ = _ + _
  refine congrArg₂ (· + ·) (Finset.sum_congr rfl fun k _ => ?_) (congrArg x3 (same₁ rfl))
  rw [val_main_v21_apply, val_main_v20_apply]
  exact congrArg₂ (· * ·) (congrArg x0 (same₃ rfl rfl rfl)) (congrArg x2 (Shape.idx_ext₂ rfl rfl))

end Cert.Proof.RefParts

end

end
-- ==== Proof.RefRead.lean ====
/- Hand-written. The reference's layers and results read at coordinates: they are the model's. -/
module

public import proofs.«01_k».proof.Proof.RefParts

@[expose] public section

noncomputable section

namespace Cert.Proof.RefRead

open Idealize.ShloMosaic
open Idealize.ShloMosaic.ValueIdx Cert.ReferenceIdeal Cert.ReferenceIdeal.Gen Cert.ReferenceIdeal.Read
open Cert.Proof.Model Cert.Proof.RefParts

/-! ### Each layer's weights, at the place the layer reads them -/

section
variable (v : Arr2 2 128) (w : Arr3 2 128 128) (b : Fin 4) (t : Fin 8) (j : Fin 1024) (f : Fin 128)

/-- The first layer's convolution bias, spread over every node of every graph. -/
theorem bias0 : val_main_v37 (F := Ideal) v (ix4 b t j f) = v (ix2 0 f) := by
  rw [val_main_v37_apply, val_main_v36_apply, val_main_v35_apply, val_main_v34_apply]
  exact congrArg v (Shape.idx_ext₂ rfl (Nat.mod_eq_of_lt f.isLt))
/-- The second layer's convolution bias, spread over every node of every graph. -/
theorem bias1 : val_main_v76 (F := Ideal) v (ix4 b t j f) = v (ix2 1 f) := by
  rw [val_main_v76_apply, val_main_v75_apply, val_main_v74_apply, val_main_v73_apply]
  exact congrArg v (Shape.idx_ext₂ rfl (Nat.mod_eq_of_lt f.isLt))
/-- The first layer's running mean, spread over every node of every graph. -/
theorem mean0 : val_main_v42 (F := Ideal) v (ix4 b t j f) = v (ix2 0 f) := by
  rw [val_main_v42_apply, val_main_v41_apply, val_main_v40_apply, val_main_v39_apply]
  exact congrArg v (Shape.idx_ext₂ rfl (Nat.mod_eq_of_lt f.isLt))
/-- The second layer's running mean, spread over every node of every graph. -/
theorem mean1 : val_main_v81 (F := Ideal) v (ix4 b t j f) = v (ix2 1 f) := by
  rw [val_main_v81_apply, val_main_v80_apply, val_main_v79_apply, val_main_v78_apply]
  exact congrArg v (Shape.idx_ext₂ rfl (Nat.mod_eq_of_lt f.isLt))
/-- The first layer's batch scale, spread over every node of every graph. -/
theorem scale0 : val_main_v55 (F := Ideal) v (ix4 b t j f) = v (ix2 0 f) := by
  rw [val_main_v55_apply, val_main_v54_apply, val_main_v53_apply, val_main_v52_apply]
  exact congrArg v (Shape.idx_ext₂ rfl (Nat.mod_eq_of_lt f.isLt))
/-- The second layer's batch scale, spread over every node of every graph. -/
theorem scale1 : val_main_v94 (F := Ideal) v (ix4 b t j f) = v (ix2 1 f) := by
  rw [val_main_v94_apply, val_main_v93_apply, val_main_v92_apply, val_main_v91_apply]
  exact congrArg v (Shape.idx_ext₂ rfl (Nat.mod_eq_of_lt f.isLt))
/-- The first layer's batch shift, spread over every node of every graph. -/
theorem shift0 : val_main_v60 (F := Ideal) v (ix4 b t j f) = v (ix2 0 f) := by
  rw [val_main_v60_apply, val_main_v59_apply, val_main_v58_apply, val_main_v57_apply]
  exact congrArg v (Shape.idx_ext₂ rfl (Nat.mod_eq_of_lt f.isLt))
/-- The second layer's batch shift, spread over every node of every graph. -/
theorem shift1 : val_main_v99 (F := Ideal) v (ix4 b t j f) = v (ix2 1 f) := by
  rw [val_main_v99_apply, val_main_v98_apply, val_main_v97_apply, val_main_v96_apply]
  exact congrArg v (Shape.idx_ext₂ rfl (Nat.mod_eq_of_lt f.isLt))
/-- The first layer's root of the shifted variance, spread over every node of every graph. -/
theorem root0 : val_main_v50 (F := Ideal) v (ix4 b t j f) = Ideal.sqrt (v (ix2 0 f) + eps) := by
  rw [val_main_v50_apply, val_main_v49_apply, val_main_v48_apply, val_main_v47_apply, val_main_v46_apply, val_main_v45_apply, val_main_v44_apply, val_main_cst_4_apply]
  exact congrArg (fun z => Ideal.sqrt (v z + eps)) (Shape.idx_ext₂ rfl (Nat.mod_eq_of_lt f.isLt))
/-- The second layer's root of the shifted variance, spread over every node of every graph. -/
theorem root1 : val_main_v89 (F := Ideal) v (ix4 b t j f) = Ideal.sqrt (v (ix2 1 f) + eps) := by
  rw [val_main_v89_apply, val_main_v88_apply, val_main_v87_apply, val_main_v86_apply, val_main_v85_apply, val_main_v84_apply, val_main_v83_apply, val_main_cst_6_apply]
  exact congrArg (fun z => Ideal.sqrt (v z + eps)) (Shape.idx_ext₂ rfl (Nat.mod_eq_of_lt f.isLt))
/-- The first layer's weight matrix, cut out of the stack. -/
theorem matrix0 (k : Fin 128) : val_main_v27 (F := Ideal) w (ix2 k f) = w (ix3 0 k f) := by
  rw [val_main_v27_apply, val_main_v26_apply]
  have hk := k.isLt
  have hf := f.isLt
  refine congrArg w (same₃ rfl ?_ ?_)
  · show (k.val * 128 + f.val) / 128 % 128 = k.val
    omega
  · show (k.val * 128 + f.val) % 128 = f.val
    omega
/-- The second layer's weight matrix, cut out of the stack. -/
theorem matrix1 (k : Fin 128) : val_main_v66 (F := Ideal) w (ix2 k f) = w (ix3 1 k f) := by
  rw [val_main_v66_apply, val_main_v65_apply]
  have hk := k.isLt
  have hf := f.isLt
  refine congrArg w (same₃ rfl ?_ ?_)
  · show (k.val * 128 + f.val) / 128 % 128 = k.val
    omega
  · show (k.val * 128 + f.val) % 128 = f.val
    omega

end

/-- Two indices of four axes with the same coordinates are the same. -/
theorem same₄ {a b c d : Nat} {i j : (⟨4, ![a, b, c, d]⟩ : Shape).Idx} (h0 : (i 0).val = (j 0).val)
    (h1 : (i 1).val = (j 1).val) (h2 : (i 2).val = (j 2).val) (h3 : (i 3).val = (j 3).val) : i = j :=
  funext fun x => Fin.ext (by match x with | ⟨0, _⟩ => exact h0 | ⟨1, _⟩ => exact h1 | ⟨2, _⟩ => exact h2 | ⟨3, _⟩ => exact h3)

section
variable (x0 : Arr3 4 8 128) (x1 : Arr4 4 8 1024 1024) (x2 : Arr2 128 128) (x3 : Arr1 128) (x4 : Arr3 2 128 128)
  (x5 x6 x7 x8 x9 : Arr2 2 128) (x10 : Arr2 128 128) (x11 : Arr1 128)

/-- A graph's features after `0`, `1` and `2` layers. -/
def start (b : Fin 4) (t : Fin 8) : Fin 1024 → Fin 128 → EReal :=
  fun _ => Spec.affine (featureOf x0 b t) (fun k f => x2 (ix2 k f)) (fun f => x3 (ix1 f))
/-- A graph's node features after the first layer, in the model. -/
def once (b : Fin 4) (t : Fin 8) : Fin 1024 → Fin 128 → EReal :=
  Spec.layer eps (graphOf x1 b t) (start x0 x2 x3 b t) (fun k f => x4 (ix3 0 k f)) (fun f => x5 (ix2 0 f)) (fun f => x6 (ix2 0 f))
    (fun f => x7 (ix2 0 f)) (fun f => x8 (ix2 0 f)) (fun f => x9 (ix2 0 f))
/-- A graph's node features after the second layer, in the model. -/
def twice (b : Fin 4) (t : Fin 8) : Fin 1024 → Fin 128 → EReal :=
  Spec.layer eps (graphOf x1 b t) (once x0 x1 x2 x3 x4 x5 x6 x7 x8 x9 b t) (fun k f => x4 (ix3 1 k f)) (fun f => x5 (ix2 1 f))
    (fun f => x6 (ix2 1 f)) (fun f => x7 (ix2 1 f)) (fun f => x8 (ix2 1 f)) (fun f => x9 (ix2 1 f))

variable (b : Fin 4) (t : Fin 8)

/-- The messages of the first layer. -/
theorem message0 (i : Fin 1024) (f : Fin 128) : val_main_v30 (F := Ideal) x0 x1 x2 x3 x4 (ix4 b t i f)
    = Spec.msg (graphOf x1 b t) (start x0 x2 x3 b t) (fun k f => x4 (ix3 0 k f)) i f := by
  rw [val_main_v30_apply, dinv29, val_main_v28_apply]
  refine congrArg (fun z : EReal => Spec.dinv (graphOf x1 b t) i * z) (Finset.sum_congr rfl fun k _ => ?_)
  have el : lidx_main_v28 (ix4 b t i f) k = ix4 b t i k := same₄ rfl rfl rfl rfl
  have er : ridx_main_v28 (ix4 b t i f) k = ix2 k f := Shape.idx_ext₂ rfl rfl
  rw [el, er, matrix0]
  exact congrArg (fun z : EReal => z * x4 (ix3 0 k f)) (start_read x0 x2 x3 b t i k)

/-- The first layer. -/
theorem once_read (j : Fin 1024) (f : Fin 128) : val_main_v64 (F := Ideal) x0 x1 x2 x3 x4 x5 x6 x7 x8 x9 (ix4 b t j f)
    = once x0 x1 x2 x3 x4 x5 x6 x7 x8 x9 b t j f := by
  have hs : ∀ k, val_main_v11 (F := Ideal) x1 (lidx_main_v31 (ix4 b t j f) k)
      * val_main_v30 (F := Ideal) x0 x1 x2 x3 x4 (ridx_main_v31 (ix4 b t j f) k)
      = Spec.hat (graphOf x1 b t) k j * Spec.msg (graphOf x1 b t) (start x0 x2 x3 b t) (fun k f => x4 (ix3 0 k f)) k f := fun k => by
    have el : lidx_main_v31 (ix4 b t j f) k = ix4 b t k j := same₄ rfl rfl rfl rfl
    have er : ridx_main_v31 (ix4 b t j f) k = ix4 b t k f := same₄ rfl rfl rfl rfl
    rw [el, er, hat_read, message0]
  rw [val_main_v64_apply, val_main_v63_apply, val_main_v61_apply, val_main_v56_apply, val_main_v51_apply, val_main_v43_apply, val_main_v38_apply, val_main_v33_apply, dinv32, val_main_v31_apply,
    Finset.sum_congr rfl fun k _ => hs k, bias0, mean0, root0, scale0, shift0, val_main_v62_apply, val_main_cst_5_apply, start_read]
  show _ + max _ (Ideal.ofBits .f32 0x00000000#32) = _
  rw [Ideal.ofBits_zero_f32]
  rfl

/-- The messages of the second layer. -/
theorem message1 (i : Fin 1024) (f : Fin 128) : val_main_v69 (F := Ideal) x0 x1 x2 x3 x4 x5 x6 x7 x8 x9 (ix4 b t i f)
    = Spec.msg (graphOf x1 b t) (once x0 x1 x2 x3 x4 x5 x6 x7 x8 x9 b t) (fun k f => x4 (ix3 1 k f)) i f := by
  rw [val_main_v69_apply, dinv68, val_main_v67_apply]
  refine congrArg (fun z : EReal => Spec.dinv (graphOf x1 b t) i * z) (Finset.sum_congr rfl fun k _ => ?_)
  have el : lidx_main_v67 (ix4 b t i f) k = ix4 b t i k := same₄ rfl rfl rfl rfl
  have er : ridx_main_v67 (ix4 b t i f) k = ix2 k f := Shape.idx_ext₂ rfl rfl
  rw [el, er, matrix1]
  exact congrArg (fun z : EReal => z * x4 (ix3 1 k f)) (once_read x0 x1 x2 x3 x4 x5 x6 x7 x8 x9 b t i k)

/-- The second layer. -/
theorem twice_read (j : Fin 1024) (f : Fin 128) : val_main_v103 (F := Ideal) x0 x1 x2 x3 x4 x5 x6 x7 x8 x9 (ix4 b t j f)
    = twice x0 x1 x2 x3 x4 x5 x6 x7 x8 x9 b t j f := by
  have hs : ∀ k, val_main_v11 (F := Ideal) x1 (lidx_main_v70 (ix4 b t j f) k)
      * val_main_v69 (F := Ideal) x0 x1 x2 x3 x4 x5 x6 x7 x8 x9 (ridx_main_v70 (ix4 b t j f) k)
      = Spec.hat (graphOf x1 b t) k j * Spec.msg (graphOf x1 b t) (once x0 x1 x2 x3 x4 x5 x6 x7 x8 x9 b t) (fun k f => x4 (ix3 1 k f)) k f := fun k => by
    have el : lidx_main_v70 (ix4 b t j f) k = ix4 b t k j := same₄ rfl rfl rfl rfl
    have er : ridx_main_v70 (ix4 b t j f) k = ix4 b t k f := same₄ rfl rfl rfl rfl
    rw [el, er, hat_read, message1]
  rw [val_main_v103_apply, val_main_v102_apply, val_main_v100_apply, val_main_v95_apply, val_main_v90_apply, val_main_v82_apply, val_main_v77_apply, val_main_v72_apply, dinv71, val_main_v70_apply,
    Finset.sum_congr rfl fun k _ => hs k, bias1, mean1, root1, scale1, shift1, val_main_v101_apply, val_main_cst_7_apply, once_read]
  show _ + max _ (Ideal.ofBits .f32 0x00000000#32) = _
  rw [Ideal.ofBits_zero_f32]
  rfl

/-- The reference's node features. -/
theorem nodes_read (j : Fin 1024) (f : Fin 128) :
    val_main_v107 (F := Ideal) x0 x1 x2 x3 x4 x5 x6 x7 x8 x9 x10 x11 (ix4 b t j f)
      = refNodes (Weights.ofArrays x2 x3 x4 x5 x6 x7 x8 x9 x10 x11) (graphOf x1 b t) (featureOf x0 b t) j f := by
  rw [val_main_v107_apply, val_main_v104_apply, val_main_v106_apply, val_main_v105_apply]
  show (_ + _ : EReal) = _ + _
  refine congrArg₂ (· + ·) (Finset.sum_congr rfl fun k _ => ?_) (congrArg x11 (same₁ rfl))
  have el : lidx_main_v104 (ix4 b t j f) k = ix4 b t j k := same₄ rfl rfl rfl rfl
  have er : ridx_main_v104 (ix4 b t j f) k = ix2 k f := Shape.idx_ext₂ rfl rfl
  rw [el, er, twice_read]
  rfl

/-- The reference's graph features. -/
theorem graphs_read (f : Fin 128) :
    val_main_v110 (F := Ideal) x0 x1 x2 x3 x4 x5 x6 x7 x8 x9 x10 x11 (ix3 b t f)
      = mean (refNodes (Weights.ofArrays x2 x3 x4 x5 x6 x7 x8 x9 x10 x11) (graphOf x1 b t) (featureOf x0 b t)) f := by
  rw [val_main_v110_apply, val_main_v108_apply, val_main_v109_apply, val_main_cst_8_apply, val_main_cst_9_apply]
  show Ideal.div (Ideal.ofBits .f32 0x00000000#32 + _) _ = Ideal.div _ _
  rw [Ideal.ofBits_zero_f32, zero_add]
  refine congrArg (fun z => Ideal.div z (Ideal.ofBits .f32 0x44800000#32)) (Finset.sum_congr rfl fun j _ => ?_)
  have e : idx_main_v108 (ix3 b t f) j = ix4 b t j f := same₄ rfl rfl rfl rfl
  rw [e]
  exact nodes_read x0 x1 x2 x3 x4 x5 x6 x7 x8 x9 x10 x11 b t j f

end

end Cert.Proof.RefRead

end

end
-- ==== Proof.PreRead.lean ====
/- Hand-written. The precondition read at coordinates: binary matrices and admissible weights. -/
module

public import proofs.«01_k».proof.Proof.Model
public import proofs.«01_k».proof.Pre_graphs_binary
public import Idealize.ShloMosaic.Lib.Pipeline.Value
public import Idealize.ShloMosaic.PureOps.Ideal.Laws

@[expose] public section

noncomputable section

namespace Cert.Proof.PreRead

open Idealize.ShloMosaic
open Idealize.ShloMosaic.ValueIdx Cert.Pre_graphs_binary
open Cert.Proof.Model

/-- The side conditions of the precondition's operations. -/
theorem facts : Cert.Pre_graphs_binary.Facts where
  bcast_S_S4x8x1024x1024 := by decide
  slices_S2x128_S1x128_0_0 := by decide
  shapeCasts_S1x128_S128 := by decide
  bcast_S_S128 := by decide
  bcast_S_S2x128 := by decide

variable [Facts]

/-- A truth value's word is one exactly when it is true. -/
theorem ofBool_one {p : Bool} (h : BitVec.ofBool p = 1#1) : p = true := by
  cases p
  · exact absurd h (by decide)
  · rfl

/-- A slice's first row, cast to a vector, at a coordinate. -/
theorem row_read (v : Arr2 2 128) (h : S2x128.Slices ![0, 0] S1x128) (h' : S1x128.ShapeCasts S128) (f : Fin 128) :
    shapeCast S128 (extractStridedSlice S1x128 ![0, 0] v h) h' (ix1 f) = v (ix2 0 f) := by
  refine (shapeCast_apply _ _ (ix1 f) (ix2 0 f) ?_).trans (extractStridedSlice_apply _ _ _ _ (ix2 0 f) ?_)
  · rw [Shape.rowMajor_val_one, Shape.rowMajor_val_two]
    show 0 * 128 + f.val = f.val
    omega
  · intro a
    match a with
    | ⟨0, _⟩ => rfl
    | ⟨1, _⟩ => show f.val = 0 + f.val; omega

/-- What an entry of a first row below infinity in absolute value is. -/
theorem finite_read (v : Arr2 2 128)
    (h : cmpf (F := Ideal) .olt (Host.absf (shapeCast S128 (extractStridedSlice S1x128 ![0, 0] v Facts.slices_S2x128_S1x128_0_0)
        Facts.shapeCasts_S1x128_S128))
      (broadcastInDim S128 ![] Facts.bcast_S_S128 (constant (F := Ideal) S_ .f32 0x7F800000#32)) = fun _ => 1#1) (f : Fin 128) :
    ∃ r : ℝ, v (ix2 0 f) = r := by
  have h1 := congrFun h (ix1 f)
  have h2 : max (shapeCast S128 (extractStridedSlice S1x128 ![0, 0] v Facts.slices_S2x128_S1x128_0_0)
      Facts.shapeCasts_S1x128_S128 (ix1 f)) (-(shapeCast S128 (extractStridedSlice S1x128 ![0, 0] v Facts.slices_S2x128_S1x128_0_0)
      Facts.shapeCasts_S1x128_S128 (ix1 f))) < Ideal.ofBits .f32 0x7F800000#32 := of_decide_eq_true (ofBool_one h1)
  rw [row_read, Algebra.ofBits_top] at h2
  exact Algebra.real_of_abs_lt_top _ h2

section
variable (x0 : Arr3 4 8 128) (x1 : Arr4 4 8 1024 1024) (x2 : Arr2 128 128) (x3 : Arr1 128) (x4 : Arr3 2 128 128)
  (x5 x6 x7 x8 x9 : Arr2 2 128) (x10 : Arr2 128 128) (x11 : Arr1 128)

/-- The matrices are binary. -/
theorem binary_read (h : (fn (F := Ideal) x0 x1 x2 x3 x4 x5 x6 x7 x8 x9 x10 x11).1 = fun _ => 1#1) (b : Fin 4) (t : Fin 8) :
    Spec.Binary (graphOf x1 b t) := by
  intro i j
  have h1 := congrFun h (ix4 b t i j)
  have h2 : BitVec.ofBool (decide (x1 (ix4 b t i j) = Ideal.ofBits .f32 0x00000000#32))
      ||| BitVec.ofBool (decide (x1 (ix4 b t i j) = Ideal.ofBits .f32 0x3F800000#32)) = 1#1 := h1
  rw [Ideal.ofBits_zero_f32, Algebra.ofBits_one] at h2
  by_cases h0 : x1 (ix4 b t i j) = 0
  · exact Or.inl h0
  · by_cases h3 : x1 (ix4 b t i j) = 1
    · exact Or.inr h3
    · rw [decide_eq_false h0, decide_eq_false h3] at h2
      exact absurd h2 (by decide)

/-- The weights are admissible. -/
theorem admissible_read (hb : (fn (F := Ideal) x0 x1 x2 x3 x4 x5 x6 x7 x8 x9 x10 x11).2.1 = fun _ => 1#1)
    (hg : (fn (F := Ideal) x0 x1 x2 x3 x4 x5 x6 x7 x8 x9 x10 x11).2.2.1 = fun _ => 1#1)
    (hmu : (fn (F := Ideal) x0 x1 x2 x3 x4 x5 x6 x7 x8 x9 x10 x11).2.2.2.1 = fun _ => 1#1)
    (hv : (fn (F := Ideal) x0 x1 x2 x3 x4 x5 x6 x7 x8 x9 x10 x11).2.2.2.2 = fun _ => 1#1) :
    Admissible (Weights.ofArrays x2 x3 x4 x5 x6 x7 x8 x9 x10 x11) where
  var l f := by
    have h1 := congrFun hv (ix2 l f)
    have h2 : Ideal.ofBits .f32 0x00000000#32 < x9 (ix2 l f) + eps := of_decide_eq_true (ofBool_one h1)
    rw [Ideal.ofBits_zero_f32] at h2
    exact h2
  b f := finite_read x5 hb f
  g f := finite_read x6 hg f
  mu f := finite_read x8 hmu f

end

end Cert.Proof.PreRead

end

end
-- ==== Proof.Equation.lean ====
/- Hand-written. Under the precondition, the kernel program's two results are the reference's two results. -/
module

public import proofs.«01_k».proof.Defs
public import proofs.«01_k».proof.Proof.Tail
public import proofs.«01_k».proof.Proof.RefRead
public import proofs.«01_k».proof.Proof.PreRead

@[expose] public section

noncomputable section

namespace Cert.Proof.Equation

open Idealize.ShloMosaic hiding ix0 ix1 ix2 ix3 ix4 ix5
open Idealize.ShloMosaic.ValueIdx Idealize.ShloMosaic.Pipeline Idealize.SL.Sem
open Idealize.ShloMosaic.TcCoe
open Cert.KernelIdeal Cert.KernelIdeal.Gen
open Cert.ReferenceIdeal.Read (val_main_v107 val_main_v110)
open Cert.Proof.Model Cert.Proof.Tail

variable [Cert.Pre_graphs_binary.Facts]
variable (m : (ℓ : Loc nD τ sig) → Buf (Elt Ideal) ℓ) (c : Dev nD)

/-- Under the precondition a graph's rows are the same as computed by the kernel and by the reference. -/
theorem rows_eq (h : Cert.Pre_KernelIdeal_graphs_binary m) (b : Fin 4) (t : Fin 8) :
    kernelNodes (Weights.ofArrays (arg m c main_arg2) (arg m c main_arg3) (arg m c main_arg4) (arg m c main_arg5) (arg m c main_arg6)
      (arg m c main_arg7) (arg m c main_arg8) (arg m c main_arg9) (arg m c main_arg10) (arg m c main_arg11))
      (graphOf (arg m c main_arg1) b t) (featureOf (arg m c main_arg0) b t)
    = refNodes (Weights.ofArrays (arg m c main_arg2) (arg m c main_arg3) (arg m c main_arg4) (arg m c main_arg5) (arg m c main_arg6)
      (arg m c main_arg7) (arg m c main_arg8) (arg m c main_arg9) (arg m c main_arg10) (arg m c main_arg11))
      (graphOf (arg m c main_arg1) b t) (featureOf (arg m c main_arg0) b t) := by
  obtain ⟨hA, hb, hg, hmu, hv⟩ := h c
  exact kernelNodes_eq _ _ _ (PreRead.binary_read _ _ _ _ _ _ _ _ _ _ _ _ hA b t)
    (PreRead.admissible_read _ _ _ _ _ _ _ _ _ _ _ _ hb hg hmu hv)

/-- The node results are equal. -/
theorem nodes_eq (h : Cert.Pre_KernelIdeal_graphs_binary m) :
    (afterTail₀ cfgs (dats m) 0 (V0 m) [hostOps1] c main_v5 : Vec Ideal S4x8x1024x128 .f32)
      = val_main_v107 (F := Ideal) (arg m c main_arg0) (arg m c main_arg1) (arg m c main_arg2) (arg m c main_arg3) (arg m c main_arg4) (arg m c main_arg5)
      (arg m c main_arg6) (arg m c main_arg7) (arg m c main_arg8) (arg m c main_arg9) (arg m c main_arg10) (arg m c main_arg11) := by
  funext i
  obtain ⟨b, t, j, f, rfl⟩ : ∃ (b : Fin 4) (t : Fin 8) (j : Fin 1024) (f : Fin 128), i = ix4 b t j f :=
    ⟨i 0, i 1, i 2, i 3, ValueIdx.eq_ix4 i⟩
  rw [nodes_result, rows_eq m c h, RefRead.nodes_read]

/-- The graph results are equal. -/
theorem graphs_eq (h : Cert.Pre_KernelIdeal_graphs_binary m) :
    (afterTail₀ cfgs (dats m) 0 (V0 m) [hostOps1] c main_v6 : Vec Ideal S4x8x128 .f32)
      = val_main_v110 (F := Ideal) (arg m c main_arg0) (arg m c main_arg1) (arg m c main_arg2) (arg m c main_arg3) (arg m c main_arg4) (arg m c main_arg5)
      (arg m c main_arg6) (arg m c main_arg7) (arg m c main_arg8) (arg m c main_arg9) (arg m c main_arg10) (arg m c main_arg11) := by
  funext i
  obtain ⟨b, t, f, rfl⟩ : ∃ (b : Fin 4) (t : Fin 8) (f : Fin 128), i = ix3 b t f :=
    ⟨i 0, i 1, i 2, ValueIdx.eq_ix3 i⟩
  rw [graphs_result, rows_eq m c h, RefRead.graphs_read]

end Cert.Proof.Equation

end

end
-- ==== Proof.lean ====
/- Hand-written. The proof of `Cert.Claim` (proofs.«01_k».proof.Defs): the three frames, the preservation, and the equation of the
   kernel program with the reference, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference leaves its arguments unchanged and has no semaphores. -/
theorem reference_frame : Cert.quiescent_ReferenceIdeal := fun m ρ _ =>
  (θ_run (ReferenceIdeal.defs (F := Ideal)) _ _).mono (fun r h => And.intro (fun c => (h c).2.2)
    (sem_eq_zero_of_no_sems (by decide) r.2)) (ReferenceIdeal.Value.run (F := Ideal) m ρ)

/-- The kernel program and the reference end with equal results. -/
theorem algebraic [Cert.Pre_graphs_binary.Facts] : Cert.algebraic_KernelIdeal_ReferenceIdeal_pre_graphs_binary := by
  intro m ρ m' ρ' hpre hargs
  refine ⟨fun c => Pipeline.afterTail₀ KernelIdeal.cfgs (KernelIdeal.Gen.dats m) 0 (KernelIdeal.Gen.V0 m) [KernelIdeal.Gen.hostOps1] c
      KernelIdeal.main_v5,
    fun c => Pipeline.afterTail₀ KernelIdeal.cfgs (KernelIdeal.Gen.dats m) 0 (KernelIdeal.Gen.V0 m) [KernelIdeal.Gen.hostOps1] c
      KernelIdeal.main_v6, ?_, ?_⟩
  · refine (θ_run (KernelIdeal.defs (F := Ideal)) _ _).mono (fun r h c => ?_)
      (θ_run_and (KernelIdeal.Gen.run_main (F := Ideal) m ρ) (KernelIdeal.Gen.unchanged (F := Ideal) m ρ))
    exact ⟨(h.1 c).2 KernelIdeal.main_v5 (Pipeline.mem_restRefs_of KernelIdeal.main_v5 (by decide) (by decide)),
      (h.1 c).2 KernelIdeal.main_v6 (Pipeline.mem_restRefs_of KernelIdeal.main_v6 (by decide) (by decide)), h.2 c⟩
  · refine (θ_run (ReferenceIdeal.defs (F := Ideal)) _ _).mono (fun r h c => ?_) (ReferenceIdeal.Value.run (F := Ideal) m' ρ')
    obtain ⟨h0, h1, h2, h3, h4, h5, h6, h7, h8, h9, h10, h11⟩ := hargs c
    refine ⟨(h c).1.trans ?_, (h c).2.1.trans ?_, (h c).2.2⟩
    · rw [ReferenceIdeal.Read.val_main_v107_eq, h0, h1, h2, h3, h4, h5, h6, h7, h8, h9, h10, h11]
      exact (Equation.nodes_eq m c hpre).symm
    · rw [ReferenceIdeal.Read.val_main_v110_eq, h0, h1, h2, h3, h4, h5, h6, h7, h8, h9, h10, h11]
      exact (Equation.graphs_eq m c hpre).symm

/-- Every claim of the certificate. -/
theorem claim : Cert.Claim := by
  refine ⟨Kernel.Gen.facts, KernelIdeal.Gen.facts, ReferenceIdeal.Gen.facts, PreRead.facts, ?_⟩
  haveI := PreRead.facts
  exact ⟨fun m ρ _ => Kernel.Gen.frame (F := Bits) m ρ, fun m ρ _ => KernelIdeal.Gen.frame (F := Ideal) m ρ,
    fun m ρ _ => KernelIdeal.Gen.frame (F := Ideal) m ρ, reference_frame, fun m ρ _ => reference_frame m ρ trivial,
    trivial, algebraic⟩

end Cert.Proof

end
